-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x8192 : Shape := ⟨2, ![4096, 8192]⟩
abbrev S4096x512 : Shape := ⟨2, ![4096, 512]⟩
abbrev S16x256x512 : Shape := ⟨3, ![16, 256, 512]⟩
abbrev S_ : Shape := ⟨0, ![]⟩
abbrev S16 : Shape := ⟨1, ![16]⟩
abbrev S256x512 : Shape := ⟨2, ![256, 512]⟩
abbrev S1x256x512 : Shape := ⟨3, ![1, 256, 512]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S256x4096, .f32⟩
  | .hbm, ⟨1, _⟩ => ⟨S4096x8192, .f32⟩
  | .hbm, ⟨2, _⟩ => ⟨S4096x512, .f32⟩
  | .local _ .vmem, ⟨0, _⟩ => ⟨S256x4096, .f32⟩
  | .local _ .vmem, ⟨1, _⟩ => ⟨S4096x512, .f32⟩
  | .local _ .vmem, ⟨2, _⟩ => ⟨S256x4096, .bf16⟩
  | .local _ .vmem, ⟨3, _⟩ => ⟨S4096x512, .f32⟩
  | .local _ .vmem, ⟨4, _⟩ => ⟨S16x256x512, .bf16⟩
  | .local _ .vmem, ⟨5, _⟩ => ⟨S16x256x512, .bf16⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c0_i32_139 : BitVec 32) : Fin 2 → Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v205 : BitVec 32 := Scalar.addi v2 c0_i32_139
  let c16_i32_140 : BitVec 32 := 16#32
  let c0_i32_141 : BitVec 32 := 0#32
  let v206 : BitVec 1 := Scalar.cmpi .eq c16_i32_140 c0_i32_141
  let c1_i32_142 : BitVec 32 := 1#32
  let v207 : BitVec 32 := Scalar.select v206 c1_i32_142 c16_i32_140
  let v208 : BitVec 32 := Scalar.remsi v205 v207
  let c0_i32_144 : BitVec 32 := 0#32
  let v210 : BitVec 1 := Scalar.cmpi .slt v208 c0_i32_144
  let c0_i32_145 : BitVec 32 := 0#32
  let v211 : BitVec 1 := Scalar.cmpi .slt v207 c0_i32_145
  let v212 : BitVec 1 := Scalar.xori v210 v211
  let c0_i32_143 : BitVec 32 := 0#32
  let v209 : BitVec 1 := Scalar.cmpi .ne v208 c0_i32_143
  let v213 : BitVec 1 := Scalar.andi v212 v209
  let v214 : BitVec 32 := Scalar.addi v208 v207
  let v215 : BitVec 32 := Scalar.select v213 v214 v208
  let c512_i32 : BitVec 32 := 512#32
  let v216 : BitVec 32 := Scalar.muli v215 c512_i32
  ![0, v216.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v225 : BitVec 32 := Scalar.muli v2 c256_i32
  let v226 : Index := Scalar.indexCast v225
  let c0_153 : Index := 0#32
  ![v226.toNat, 0]
def k0_dev16 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_154 : BitVec 32 := 1#32
  let v228 : BitVec 32 := Scalar.addi v2 c1_i32_154
  let c16_i32_155 : BitVec 32 := 16#32
  let c0_i32_156 : BitVec 32 := 0#32
  let v229 : BitVec 1 := Scalar.cmpi .eq c16_i32_155 c0_i32_156
  let c1_i32_157 : BitVec 32 := 1#32
  let v230 : BitVec 32 := Scalar.select v229 c1_i32_157 c16_i32_155
  let v231 : BitVec 32 := Scalar.remsi v228 v230
  let c0_i32_159 : BitVec 32 := 0#32
  let v233 : BitVec 1 := Scalar.cmpi .slt v231 c0_i32_159
  let c0_i32_160 : BitVec 32 := 0#32
  let v234 : BitVec 1 := Scalar.cmpi .slt v230 c0_i32_160
  let v235 : BitVec 1 := Scalar.xori v233 v234
  let c0_i32_158 : BitVec 32 := 0#32
  let v232 : BitVec 1 := Scalar.cmpi .ne v231 c0_i32_158
  let v236 : BitVec 1 := Scalar.andi v235 v232
  let v237 : BitVec 32 := Scalar.addi v231 v230
  let v238 : BitVec 32 := Scalar.select v236 v237 v231
  let c1_i32_176 : BitVec 32 := 1#32
  let v252 : BitVec 32 := Scalar.muli v238 c1_i32_176
  let v253 : BitVec 32 := Scalar.addi c0_i32_177 v252
  v253.toNat
def k0_dev17 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_182 : BitVec 32 := 2#32
  let v262 : BitVec 32 := Scalar.addi v2 c2_i32_182
  let c16_i32_183 : BitVec 32 := 16#32
  let c0_i32_184 : BitVec 32 := 0#32
  let v263 : BitVec 1 := Scalar.cmpi .eq c16_i32_183 c0_i32_184
  let c1_i32_185 : BitVec 32 := 1#32
  let v264 : BitVec 32 := Scalar.select v263 c1_i32_185 c16_i32_183
  let v265 : BitVec 32 := Scalar.remsi v262 v264
  let c0_i32_187 : BitVec 32 := 0#32
  let v267 : BitVec 1 := Scalar.cmpi .slt v265 c0_i32_187
  let c0_i32_188 : BitVec 32 := 0#32
  let v268 : BitVec 1 := Scalar.cmpi .slt v264 c0_i32_188
  let v269 : BitVec 1 := Scalar.xori v267 v268
  let c0_i32_186 : BitVec 32 := 0#32
  let v266 : BitVec 1 := Scalar.cmpi .ne v265 c0_i32_186
  let v270 : BitVec 1 := Scalar.andi v269 v266
  let v271 : BitVec 32 := Scalar.addi v265 v264
  let v272 : BitVec 32 := Scalar.select v270 v271 v265
  let c1_i32_204 : BitVec 32 := 1#32
  let v286 : BitVec 32 := Scalar.muli v272 c1_i32_204
  let v287 : BitVec 32 := Scalar.addi c0_i32_205 v286
  v287.toNat
def k0_dev18 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_210 : BitVec 32 := 3#32
  let v296 : BitVec 32 := Scalar.addi v2 c3_i32_210
  let c16_i32_211 : BitVec 32 := 16#32
  let c0_i32_212 : BitVec 32 := 0#32
  let v297 : BitVec 1 := Scalar.cmpi .eq c16_i32_211 c0_i32_212
  let c1_i32_213 : BitVec 32 := 1#32
  let v298 : BitVec 32 := Scalar.select v297 c1_i32_213 c16_i32_211
  let v299 : BitVec 32 := Scalar.remsi v296 v298
  let c0_i32_215 : BitVec 32 := 0#32
  let v301 : BitVec 1 := Scalar.cmpi .slt v299 c0_i32_215
  let c0_i32_216 : BitVec 32 := 0#32
  let v302 : BitVec 1 := Scalar.cmpi .slt v298 c0_i32_216
  let v303 : BitVec 1 := Scalar.xori v301 v302
  let c0_i32_214 : BitVec 32 := 0#32
  let v300 : BitVec 1 := Scalar.cmpi .ne v299 c0_i32_214
  let v304 : BitVec 1 := Scalar.andi v303 v300
  let v305 : BitVec 32 := Scalar.addi v299 v298
  let v306 : BitVec 32 := Scalar.select v304 v305 v299
  let c1_i32_232 : BitVec 32 := 1#32
  let v320 : BitVec 32 := Scalar.muli v306 c1_i32_232
  let v321 : BitVec 32 := Scalar.addi c0_i32_233 v320
  v321.toNat
def k0_dev19 (d0 : Dev nD) : Nat :=
  let c0_i32_261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_238 : BitVec 32 := 4#32
  let v330 : BitVec 32 := Scalar.addi v2 c4_i32_238
  let c16_i32_239 : BitVec 32 := 16#32
  let c0_i32_240 : BitVec 32 := 0#32
  let v331 : BitVec 1 := Scalar.cmpi .eq c16_i32_239 c0_i32_240
  let c1_i32_241 : BitVec 32 := 1#32
  let v332 : BitVec 32 := Scalar.select v331 c1_i32_241 c16_i32_239
  let v333 : BitVec 32 := Scalar.remsi v330 v332
  let c0_i32_243 : BitVec 32 := 0#32
  let v335 : BitVec 1 := Scalar.cmpi .slt v333 c0_i32_243
  let c0_i32_244 : BitVec 32 := 0#32
  let v336 : BitVec 1 := Scalar.cmpi .slt v332 c0_i32_244
  let v337 : BitVec 1 := Scalar.xori v335 v336
  let c0_i32_242 : BitVec 32 := 0#32
  let v334 : BitVec 1 := Scalar.cmpi .ne v333 c0_i32_242
  let v338 : BitVec 1 := Scalar.andi v337 v334
  let v339 : BitVec 32 := Scalar.addi v333 v332
  let v340 : BitVec 32 := Scalar.select v338 v339 v333
  let c1_i32_260 : BitVec 32 := 1#32
  let v354 : BitVec 32 := Scalar.muli v340 c1_i32_260
  let v355 : BitVec 32 := Scalar.addi c0_i32_261 v354
  v355.toNat
def k0_dev20 (d0 : Dev nD) : Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_266 : BitVec 32 := 5#32
  let v364 : BitVec 32 := Scalar.addi v2 c5_i32_266
  let c16_i32_267 : BitVec 32 := 16#32
  let c0_i32_268 : BitVec 32 := 0#32
  let v365 : BitVec 1 := Scalar.cmpi .eq c16_i32_267 c0_i32_268
  let c1_i32_269 : BitVec 32 := 1#32
  let v366 : BitVec 32 := Scalar.select v365 c1_i32_269 c16_i32_267
  let v367 : BitVec 32 := Scalar.remsi v364 v366
  let c0_i32_271 : BitVec 32 := 0#32
  let v369 : BitVec 1 := Scalar.cmpi .slt v367 c0_i32_271
  let c0_i32_272 : BitVec 32 := 0#32
  let v370 : BitVec 1 := Scalar.cmpi .slt v366 c0_i32_272
  let v371 : BitVec 1 := Scalar.xori v369 v370
  let c0_i32_270 : BitVec 32 := 0#32
  let v368 : BitVec 1 := Scalar.cmpi .ne v367 c0_i32_270
  let v372 : BitVec 1 := Scalar.andi v371 v368
  let v373 : BitVec 32 := Scalar.addi v367 v366
  let v374 : BitVec 32 := Scalar.select v372 v373 v367
  let c1_i32_288 : BitVec 32 := 1#32
  let v388 : BitVec 32 := Scalar.muli v374 c1_i32_288
  let v389 : BitVec 32 := Scalar.addi c0_i32_289 v388
  v389.toNat
def k0_dev21 (d0 : Dev nD) : Nat :=
  let c0_i32_317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_294 : BitVec 32 := 6#32
  let v398 : BitVec 32 := Scalar.addi v2 c6_i32_294
  let c16_i32_295 : BitVec 32 := 16#32
  let c0_i32_296 : BitVec 32 := 0#32
  let v399 : BitVec 1 := Scalar.cmpi .eq c16_i32_295 c0_i32_296
  let c1_i32_297 : BitVec 32 := 1#32
  let v400 : BitVec 32 := Scalar.select v399 c1_i32_297 c16_i32_295
  let v401 : BitVec 32 := Scalar.remsi v398 v400
  let c0_i32_299 : BitVec 32 := 0#32
  let v403 : BitVec 1 := Scalar.cmpi .slt v401 c0_i32_299
  let c0_i32_300 : BitVec 32 := 0#32
  let v404 : BitVec 1 := Scalar.cmpi .slt v400 c0_i32_300
  let v405 : BitVec 1 := Scalar.xori v403 v404
  let c0_i32_298 : BitVec 32 := 0#32
  let v402 : BitVec 1 := Scalar.cmpi .ne v401 c0_i32_298
  let v406 : BitVec 1 := Scalar.andi v405 v402
  let v407 : BitVec 32 := Scalar.addi v401 v400
  let v408 : BitVec 32 := Scalar.select v406 v407 v401
  let c1_i32_316 : BitVec 32 := 1#32
  let v422 : BitVec 32 := Scalar.muli v408 c1_i32_316
  let v423 : BitVec 32 := Scalar.addi c0_i32_317 v422
  v423.toNat
def k0_dev22 (d0 : Dev nD) : Nat :=
  let c0_i32_345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_322 : BitVec 32 := 7#32
  let v432 : BitVec 32 := Scalar.addi v2 c7_i32_322
  let c16_i32_323 : BitVec 32 := 16#32
  let c0_i32_324 : BitVec 32 := 0#32
  let v433 : BitVec 1 := Scalar.cmpi .eq c16_i32_323 c0_i32_324
  let c1_i32_325 : BitVec 32 := 1#32
  let v434 : BitVec 32 := Scalar.select v433 c1_i32_325 c16_i32_323
  let v435 : BitVec 32 := Scalar.remsi v432 v434
  let c0_i32_327 : BitVec 32 := 0#32
  let v437 : BitVec 1 := Scalar.cmpi .slt v435 c0_i32_327
  let c0_i32_328 : BitVec 32 := 0#32
  let v438 : BitVec 1 := Scalar.cmpi .slt v434 c0_i32_328
  let v439 : BitVec 1 := Scalar.xori v437 v438
  let c0_i32_326 : BitVec 32 := 0#32
  let v436 : BitVec 1 := Scalar.cmpi .ne v435 c0_i32_326
  let v440 : BitVec 1 := Scalar.andi v439 v436
  let v441 : BitVec 32 := Scalar.addi v435 v434
  let v442 : BitVec 32 := Scalar.select v440 v441 v435
  let c1_i32_344 : BitVec 32 := 1#32
  let v456 : BitVec 32 := Scalar.muli v442 c1_i32_344
  let v457 : BitVec 32 := Scalar.addi c0_i32_345 v456
  v457.toNat
def k0_dev23 (d0 : Dev nD) : Nat :=
  let c0_i32_373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_350 : BitVec 32 := 8#32
  let v466 : BitVec 32 := Scalar.addi v2 c8_i32_350
  let c16_i32_351 : BitVec 32 := 16#32
  let c0_i32_352 : BitVec 32 := 0#32
  let v467 : BitVec 1 := Scalar.cmpi .eq c16_i32_351 c0_i32_352
  let c1_i32_353 : BitVec 32 := 1#32
  let v468 : BitVec 32 := Scalar.select v467 c1_i32_353 c16_i32_351
  let v469 : BitVec 32 := Scalar.remsi v466 v468
  let c0_i32_355 : BitVec 32 := 0#32
  let v471 : BitVec 1 := Scalar.cmpi .slt v469 c0_i32_355
  let c0_i32_356 : BitVec 32 := 0#32
  let v472 : BitVec 1 := Scalar.cmpi .slt v468 c0_i32_356
  let v473 : BitVec 1 := Scalar.xori v471 v472
  let c0_i32_354 : BitVec 32 := 0#32
  let v470 : BitVec 1 := Scalar.cmpi .ne v469 c0_i32_354
  let v474 : BitVec 1 := Scalar.andi v473 v470
  let v475 : BitVec 32 := Scalar.addi v469 v468
  let v476 : BitVec 32 := Scalar.select v474 v475 v469
  let c1_i32_372 : BitVec 32 := 1#32
  let v490 : BitVec 32 := Scalar.muli v476 c1_i32_372
  let v491 : BitVec 32 := Scalar.addi c0_i32_373 v490
  v491.toNat
def k0_dev24 (d0 : Dev nD) : Nat :=
  let c0_i32_401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_378 : BitVec 32 := 9#32
  let v500 : BitVec 32 := Scalar.addi v2 c9_i32_378
  let c16_i32_379 : BitVec 32 := 16#32
  let c0_i32_380 : BitVec 32 := 0#32
  let v501 : BitVec 1 := Scalar.cmpi .eq c16_i32_379 c0_i32_380
  let c1_i32_381 : BitVec 32 := 1#32
  let v502 : BitVec 32 := Scalar.select v501 c1_i32_381 c16_i32_379
  let v503 : BitVec 32 := Scalar.remsi v500 v502
  let c0_i32_383 : BitVec 32 := 0#32
  let v505 : BitVec 1 := Scalar.cmpi .slt v503 c0_i32_383
  let c0_i32_384 : BitVec 32 := 0#32
  let v506 : BitVec 1 := Scalar.cmpi .slt v502 c0_i32_384
  let v507 : BitVec 1 := Scalar.xori v505 v506
  let c0_i32_382 : BitVec 32 := 0#32
  let v504 : BitVec 1 := Scalar.cmpi .ne v503 c0_i32_382
  let v508 : BitVec 1 := Scalar.andi v507 v504
  let v509 : BitVec 32 := Scalar.addi v503 v502
  let v510 : BitVec 32 := Scalar.select v508 v509 v503
  let c1_i32_400 : BitVec 32 := 1#32
  let v524 : BitVec 32 := Scalar.muli v510 c1_i32_400
  let v525 : BitVec 32 := Scalar.addi c0_i32_401 v524
  v525.toNat
def k0_dev25 (d0 : Dev nD) : Nat :=
  let c0_i32_429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_406 : BitVec 32 := 10#32
  let v534 : BitVec 32 := Scalar.addi v2 c10_i32_406
  let c16_i32_407 : BitVec 32 := 16#32
  let c0_i32_408 : BitVec 32 := 0#32
  let v535 : BitVec 1 := Scalar.cmpi .eq c16_i32_407 c0_i32_408
  let c1_i32_409 : BitVec 32 := 1#32
  let v536 : BitVec 32 := Scalar.select v535 c1_i32_409 c16_i32_407
  let v537 : BitVec 32 := Scalar.remsi v534 v536
  let c0_i32_411 : BitVec 32 := 0#32
  let v539 : BitVec 1 := Scalar.cmpi .slt v537 c0_i32_411
  let c0_i32_412 : BitVec 32 := 0#32
  let v540 : BitVec 1 := Scalar.cmpi .slt v536 c0_i32_412
  let v541 : BitVec 1 := Scalar.xori v539 v540
  let c0_i32_410 : BitVec 32 := 0#32
  let v538 : BitVec 1 := Scalar.cmpi .ne v537 c0_i32_410
  let v542 : BitVec 1 := Scalar.andi v541 v538
  let v543 : BitVec 32 := Scalar.addi v537 v536
  let v544 : BitVec 32 := Scalar.select v542 v543 v537
  let c1_i32_428 : BitVec 32 := 1#32
  let v558 : BitVec 32 := Scalar.muli v544 c1_i32_428
  let v559 : BitVec 32 := Scalar.addi c0_i32_429 v558
  v559.toNat
def k0_dev26 (d0 : Dev nD) : Nat :=
  let c0_i32_457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_434 : BitVec 32 := 11#32
  let v568 : BitVec 32 := Scalar.addi v2 c11_i32_434
  let c16_i32_435 : BitVec 32 := 16#32
  let c0_i32_436 : BitVec 32 := 0#32
  let v569 : BitVec 1 := Scalar.cmpi .eq c16_i32_435 c0_i32_436
  let c1_i32_437 : BitVec 32 := 1#32
  let v570 : BitVec 32 := Scalar.select v569 c1_i32_437 c16_i32_435
  let v571 : BitVec 32 := Scalar.remsi v568 v570
  let c0_i32_439 : BitVec 32 := 0#32
  let v573 : BitVec 1 := Scalar.cmpi .slt v571 c0_i32_439
  let c0_i32_440 : BitVec 32 := 0#32
  let v574 : BitVec 1 := Scalar.cmpi .slt v570 c0_i32_440
  let v575 : BitVec 1 := Scalar.xori v573 v574
  let c0_i32_438 : BitVec 32 := 0#32
  let v572 : BitVec 1 := Scalar.cmpi .ne v571 c0_i32_438
  let v576 : BitVec 1 := Scalar.andi v575 v572
  let v577 : BitVec 32 := Scalar.addi v571 v570
  let v578 : BitVec 32 := Scalar.select v576 v577 v571
  let c1_i32_456 : BitVec 32 := 1#32
  let v592 : BitVec 32 := Scalar.muli v578 c1_i32_456
  let v593 : BitVec 32 := Scalar.addi c0_i32_457 v592
  v593.toNat
def k0_dev27 (d0 : Dev nD) : Nat :=
  let c0_i32_485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_462 : BitVec 32 := 12#32
  let v602 : BitVec 32 := Scalar.addi v2 c12_i32_462
  let c16_i32_463 : BitVec 32 := 16#32
  let c0_i32_464 : BitVec 32 := 0#32
  let v603 : BitVec 1 := Scalar.cmpi .eq c16_i32_463 c0_i32_464
  let c1_i32_465 : BitVec 32 := 1#32
  let v604 : BitVec 32 := Scalar.select v603 c1_i32_465 c16_i32_463
  let v605 : BitVec 32 := Scalar.remsi v602 v604
  let c0_i32_467 : BitVec 32 := 0#32
  let v607 : BitVec 1 := Scalar.cmpi .slt v605 c0_i32_467
  let c0_i32_468 : BitVec 32 := 0#32
  let v608 : BitVec 1 := Scalar.cmpi .slt v604 c0_i32_468
  let v609 : BitVec 1 := Scalar.xori v607 v608
  let c0_i32_466 : BitVec 32 := 0#32
  let v606 : BitVec 1 := Scalar.cmpi .ne v605 c0_i32_466
  let v610 : BitVec 1 := Scalar.andi v609 v606
  let v611 : BitVec 32 := Scalar.addi v605 v604
  let v612 : BitVec 32 := Scalar.select v610 v611 v605
  let c1_i32_484 : BitVec 32 := 1#32
  let v626 : BitVec 32 := Scalar.muli v612 c1_i32_484
  let v627 : BitVec 32 := Scalar.addi c0_i32_485 v626
  v627.toNat
def k0_dev28 (d0 : Dev nD) : Nat :=
  let c0_i32_513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_490 : BitVec 32 := 13#32
  let v636 : BitVec 32 := Scalar.addi v2 c13_i32_490
  let c16_i32_491 : BitVec 32 := 16#32
  let c0_i32_492 : BitVec 32 := 0#32
  let v637 : BitVec 1 := Scalar.cmpi .eq c16_i32_491 c0_i32_492
  let c1_i32_493 : BitVec 32 := 1#32
  let v638 : BitVec 32 := Scalar.select v637 c1_i32_493 c16_i32_491
  let v639 : BitVec 32 := Scalar.remsi v636 v638
  let c0_i32_495 : BitVec 32 := 0#32
  let v641 : BitVec 1 := Scalar.cmpi .slt v639 c0_i32_495
  let c0_i32_496 : BitVec 32 := 0#32
  let v642 : BitVec 1 := Scalar.cmpi .slt v638 c0_i32_496
  let v643 : BitVec 1 := Scalar.xori v641 v642
  let c0_i32_494 : BitVec 32 := 0#32
  let v640 : BitVec 1 := Scalar.cmpi .ne v639 c0_i32_494
  let v644 : BitVec 1 := Scalar.andi v643 v640
  let v645 : BitVec 32 := Scalar.addi v639 v638
  let v646 : BitVec 32 := Scalar.select v644 v645 v639
  let c1_i32_512 : BitVec 32 := 1#32
  let v660 : BitVec 32 := Scalar.muli v646 c1_i32_512
  let v661 : BitVec 32 := Scalar.addi c0_i32_513 v660
  v661.toNat
def k0_dev29 (d0 : Dev nD) : Nat :=
  let c0_i32_541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_518 : BitVec 32 := 14#32
  let v670 : BitVec 32 := Scalar.addi v2 c14_i32_518
  let c16_i32_519 : BitVec 32 := 16#32
  let c0_i32_520 : BitVec 32 := 0#32
  let v671 : BitVec 1 := Scalar.cmpi .eq c16_i32_519 c0_i32_520
  let c1_i32_521 : BitVec 32 := 1#32
  let v672 : BitVec 32 := Scalar.select v671 c1_i32_521 c16_i32_519
  let v673 : BitVec 32 := Scalar.remsi v670 v672
  let c0_i32_523 : BitVec 32 := 0#32
  let v675 : BitVec 1 := Scalar.cmpi .slt v673 c0_i32_523
  let c0_i32_524 : BitVec 32 := 0#32
  let v676 : BitVec 1 := Scalar.cmpi .slt v672 c0_i32_524
  let v677 : BitVec 1 := Scalar.xori v675 v676
  let c0_i32_522 : BitVec 32 := 0#32
  let v674 : BitVec 1 := Scalar.cmpi .ne v673 c0_i32_522
  let v678 : BitVec 1 := Scalar.andi v677 v674
  let v679 : BitVec 32 := Scalar.addi v673 v672
  let v680 : BitVec 32 := Scalar.select v678 v679 v673
  let c1_i32_540 : BitVec 32 := 1#32
  let v694 : BitVec 32 := Scalar.muli v680 c1_i32_540
  let v695 : BitVec 32 := Scalar.addi c0_i32_541 v694
  v695.toNat
def k0_dev30 (d0 : Dev nD) : Nat :=
  let c0_i32_569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_546 : BitVec 32 := 15#32
  let v704 : BitVec 32 := Scalar.addi v2 c15_i32_546
  let c16_i32_547 : BitVec 32 := 16#32
  let c0_i32_548 : BitVec 32 := 0#32
  let v705 : BitVec 1 := Scalar.cmpi .eq c16_i32_547 c0_i32_548
  let c1_i32_549 : BitVec 32 := 1#32
  let v706 : BitVec 32 := Scalar.select v705 c1_i32_549 c16_i32_547
  let v707 : BitVec 32 := Scalar.remsi v704 v706
  let c0_i32_551 : BitVec 32 := 0#32
  let v709 : BitVec 1 := Scalar.cmpi .slt v707 c0_i32_551
  let c0_i32_552 : BitVec 32 := 0#32
  let v710 : BitVec 1 := Scalar.cmpi .slt v706 c0_i32_552
  let v711 : BitVec 1 := Scalar.xori v709 v710
  let c0_i32_550 : BitVec 32 := 0#32
  let v708 : BitVec 1 := Scalar.cmpi .ne v707 c0_i32_550
  let v712 : BitVec 1 := Scalar.andi v711 v708
  let v713 : BitVec 32 := Scalar.addi v707 v706
  let v714 : BitVec 32 := Scalar.select v712 v713 v707
  let c1_i32_568 : BitVec 32 := 1#32
  let v728 : BitVec 32 := Scalar.muli v714 c1_i32_568
  let v729 : BitVec 32 := Scalar.addi c0_i32_569 v728
  v729.toNat
def k0_off3 (d0 : Dev nD) (c1_i32_575 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_574 : BitVec 32 := 16#32
  let v738 : BitVec 32 := Scalar.addi v2 c16_i32_574
  let v739 : BitVec 32 := Scalar.subi v738 c1_i32_575
  let c16_i32_576 : BitVec 32 := 16#32
  let c0_i32_577 : BitVec 32 := 0#32
  let v740 : BitVec 1 := Scalar.cmpi .eq c16_i32_576 c0_i32_577
  let c1_i32_578 : BitVec 32 := 1#32
  let v741 : BitVec 32 := Scalar.select v740 c1_i32_578 c16_i32_576
  let v742 : BitVec 32 := Scalar.remsi v739 v741
  let c0_i32_580 : BitVec 32 := 0#32
  let v744 : BitVec 1 := Scalar.cmpi .slt v742 c0_i32_580
  let c0_i32_581 : BitVec 32 := 0#32
  let v745 : BitVec 1 := Scalar.cmpi .slt v741 c0_i32_581
  let v746 : BitVec 1 := Scalar.xori v744 v745
  let c0_i32_579 : BitVec 32 := 0#32
  let v743 : BitVec 1 := Scalar.cmpi .ne v742 c0_i32_579
  let v747 : BitVec 1 := Scalar.andi v746 v743
  let v748 : BitVec 32 := Scalar.addi v742 v741
  let v749 : BitVec 32 := Scalar.select v747 v748 v742
  let c256_i32_595 : BitVec 32 := 256#32
  let v761 : BitVec 32 := Scalar.muli v749 c256_i32_595
  let v762 : Index := Scalar.indexCast v761
  let c0_596 : Index := 0#32
  ![v762.toNat, 0]
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Steps.lean ====
/-
The kernel's body as a sequence of steps, one family of steps for each of its four loops (the signals,
the products with their copies out, the arrivals, the departures), and the equation between the printed body and that sequence.
-/
module

public import proofs.«01_k».proof.Proof.Gen.KernelIdeal.Skeleton
public import proofs.«01_k».proof.Proof.Gen.KernelIdeal.Points

@[expose] public section

noncomputable section

namespace Cert.KernelIdeal.AllToAll

open Idealize.ShloMosaic Idealize.ShloMosaic.TcCoe Idealize.SL.Sem
open Cert.KernelIdeal.Gen

variable {F : FTy → Type} [FloatOps F]

/-! ## Device numbers -/

/-- The device `s` places after device `d` on the ring of sixteen. -/
def fwd (d : Dev nD) (s : Fin 16) : Dev nD := ⟨(d.val + s.val) % 16, Nat.mod_lt _ (by decide)⟩
/-- The device `s` places before device `d`. -/
def bwd (d : Dev nD) (s : Fin 16) : Dev nD := ⟨(d.val + 16 - s.val) % 16, Nat.mod_lt _ (by decide)⟩

/-- The device numbers the printed body computes, for the shifts one to fifteen. -/
def devNo (s : Fin 16) (d : Dev nD) : ℕ :=
  (![0, k0_dev1 d, k0_dev2 d, k0_dev3 d, k0_dev4 d, k0_dev5 d, k0_dev6 d, k0_dev7 d, k0_dev8 d, k0_dev9 d, k0_dev10 d,
    k0_dev11 d, k0_dev12 d, k0_dev13 d, k0_dev14 d, k0_dev15 d] : Fin 16 → ℕ) s

theorem devNo_eq : ∀ (d : Dev nD) (s : Fin 16), s ≠ 0 → devNo s d = (d.val + s.val) % 16 := by decide +kernel

theorem devNo_lt (d : Dev nD) (s : Fin 16) : devNo s d < nD := by
  by_cases h : s = 0
  · subst h; exact (by decide : 0 < nD)
  · rw [devNo_eq d s h]; exact Nat.mod_lt _ (by decide)

/-- The device the body addresses at shift `s`. -/
abbrev dst (s : Fin 16) (d : Dev nD) : Dev nD := ⟨devNo s d, devNo_lt d s⟩

theorem dst_eq (d : Dev nD) (s : Fin 16) (h : s ≠ 0) : dst s d = fwd d s := Fin.ext (devNo_eq d s h)

/-! ## The buffers and the semaphores -/

abbrev wM : Memref sig .tc .hbm S4096x8192 .f32 := Memref.whole main_arg1
abbrev xM : Memref sig .tc .vmem S256x4096 .f32 := Memref.whole cc0_stg0_0
abbrev oM : Memref sig .tc .vmem S4096x512 .f32 := Memref.whole cc0_stg1_0
abbrev xbM : Memref sig .tc .vmem S256x4096 .bf16 := Memref.whole cc0_scratch0
abbrev wvM : Memref sig .tc .vmem S4096x512 .f32 := Memref.whole cc0_scratch1
abbrev yM : Memref sig .tc .vmem S16x256x512 .bf16 := Memref.whole cc0_scratch2
abbrev cM : Memref sig .tc .vmem S16x256x512 .bf16 := Memref.whole cc0_scratch3

/-- The barrier's semaphore. -/
abbrev barS : Sem sig := (SemArray.scalar (sig.barrier 0 rfl) : Sems sig S_).sem

theorem slot_inb : ∀ (s : Fin 16) a, (![s.val, 0, 0] : Fin 3 → ℕ) a + S1x256x512.size a ≤ S16x256x512.size a := by decide
theorem cell_inb : ∀ (s : Fin 16) a, (![s.val] : Fin 1 → ℕ) a + S1.size a ≤ S16.size a := by decide
theorem row_inb : ∀ (d : Dev nD) (s : Fin 16) a,
    (k0_off3 d (BitVec.ofNat 32 s.val)) a + S256x512.size a ≤ S4096x512.size a := by decide +kernel

/-- Slot `s` of a buffer of sixteen blocks. -/
abbrev slotR (s : Fin 16) : Rect S16x256x512 := Rect.unit (s := S16x256x512) ![s.val, 0, 0] S1x256x512.size (slot_inb s)
/-- The columns of the second operand the product at shift `s` takes. -/
abbrev colR (d : Dev nD) (s : Fin 16) : Rect S4096x8192 :=
  Rect.unit (s := S4096x8192) (k0_off1 d (BitVec.ofNat 32 s.val)) S4096x512.size (k0_off1_inb d s)
/-- The rows of the result the device's own product fills. -/
abbrev ownR (d : Dev nD) : Rect S4096x512 := Rect.unit (s := S4096x512) (k0_off2 d) S256x512.size (k0_off2_inb d)
/-- The rows of the result the block arriving at shift `s` fills. -/
abbrev rowR (d : Dev nD) (s : Fin 16) : Rect S4096x512 :=
  Rect.unit (s := S4096x512) (k0_off3 d (BitVec.ofNat 32 s.val)) S256x512.size (row_inb d s)

abbrev wCol (d : Dev nD) (s : Fin 16) : Memref sig .tc .hbm S4096x512 .f32 := wM.slice (colR d s) (fun _ => rfl)
abbrev ySlot (s : Fin 16) : Memref sig .tc .vmem S256x512 .bf16 := (yM.slice (slotR s) (fun _ => rfl)).squeeze S256x512 squeezes_S1x256x512_S256x512
abbrev cSlot (s : Fin 16) : Memref sig .tc .vmem S256x512 .bf16 := (cM.slice (slotR s) (fun _ => rfl)).squeeze S256x512 squeezes_S1x256x512_S256x512

abbrev copyS : DmaSem sig := cc0_scratch4.sem
abbrev sendS (s : Fin 16) : DmaSem sig := ((cc0_scratch5.slice (Rect.unit (s := S16) ![s.val] S1.size (cell_inb s))).squeeze S_ squeezes_S1_S_).sem
abbrev recvS (s : Fin 16) : DmaSem sig := ((cc0_scratch6.slice (Rect.unit (s := S16) ![s.val] S1.size (cell_inb s))).squeeze S_ squeezes_S1_S_).sem

theorem packedX : (Rect.unit (s := S256x4096) ![0, 0] S256x4096.size inb_S256x4096_S256x4096_0_0).PackedRows (EltTy.packing .bf16) :=
  packedbf16_S256x4096_S256x4096_0_0
theorem slot_packed : ∀ s : Fin 16, (slotR s).PackedRows (EltTy.packing .bf16) := by decide
theorem slot_words : ∀ s : Fin 16, (slotR s).WholeWords (EltTy.packing .bf16) := by decide

theorem yWords (s : Fin 16) : (ySlot s).view.WordExact := ((Memref.isWhole_whole cc0_scratch2).wordExact_slice rfl _ (slot_words s)).reshape _ _
theorem cWords (s : Fin 16) : (cSlot s).view.WordExact := ((Memref.isWhole_whole cc0_scratch3).wordExact_slice rfl _ (slot_words s)).reshape _ _

/-! ## The values -/

/-- One block of the product, not yet rounded: the larger of zero and the device's rows times the columns. -/
abbrev blockF (xb : Vec F S256x4096 .bf16) (wv : Vec F S4096x512 .f32) : FVec F S256x512 .f32 := k0_pay2 xb wv
/-- One block of the product as it is sent. -/
def blockB (xb : Vec F S256x4096 .bf16) (wv : Vec F S4096x512 .f32) : FVec F S256x512 .bf16 := truncf .bf16 (blockF xb wv) bitsLt_bf16_f32
/-- One block of the product as it is stored in its slot. -/
def blockS (xb : Vec F S256x4096 .bf16) (wv : Vec F S4096x512 .f32) : FVec F S1x256x512 .bf16 :=
  shapeCast S1x256x512 (blockB xb wv) shapeCasts_S256x512_S1x256x512
/-- A block that has arrived, widened. -/
def blockW (v : Vec F S1x256x512 .bf16) : FVec F S256x512 .f32 :=
  extf .f32 (shapeCast S256x512 v shapeCasts_S1x256x512_S256x512) bitsLt_bf16_f32

/-! ## The steps -/

variable (F) in
abbrev Pg : Type 1 := Prog (TpuEff nD τ sig (Elt F) Λ₀ .tc) PUnit

/-- Signal the barrier of the device at shift `s`. -/
def sigStep (d : Dev nD) (s : Fin 16) (k : Pg F) : Pg F :=
  .op (.semSignal (dst s d, .tc) barS (1#32).toInt) fun _ => k

/-- Wait for all the barrier's signals. -/
def barStep (k : Pg F) : Pg F := .op (.semWait barS (15#32).toInt) fun _ => k

/-- Round the device's rows. -/
def castStep (k : Pg F) : Pg F :=
  .op (.load xM (Rect.unit (s := S256x4096) ![0, 0] S256x4096.size inb_S256x4096_S256x4096_0_0).toLoadRect (View.loadsAt_vmem h_S256x4096)) fun x =>
  .op (.load xbM (Rect.unit (s := S256x4096) ![0, 0] S256x4096.size inb_S256x4096_S256x4096_0_0).toLoadRect (View.loadsAt_vmem h_S256x4096)) fun _ =>
  .op (.store xbM (Rect.unit (s := S256x4096) ![0, 0] S256x4096.size inb_S256x4096_S256x4096_0_0) (k0_pay1 x) Finset.univ
    (View.stores_vmem h_S256x4096 ((Memref.isWhole_whole cc0_scratch0).storeExact_slice rfl _ packedX) (fun _ => rfl)) (.inl rfl)) fun _ => k

/-- Fetch the columns at shift `s` and read both factors. -/
def fetchStep (d : Dev nD) (s : Fin 16) (k : Vec F S256x4096 .bf16 → Vec F S4096x512 .f32 → Pg F) : Pg F :=
  .op (.enqueueDma (wCol d s) (.here wvM) (.dma copyS) (View.wordExact_bits rfl) (Memref.isWhole_whole cc0_scratch1).wordExact ⟨Or.inl rfl, trivial⟩) fun _ =>
  .op (.waitDma2 copyS (wCol d s) wvM (View.wordExact_bits rfl) (Memref.isWhole_whole cc0_scratch1).wordExact) fun _ =>
  .op (.load xbM (Rect.unit (s := S256x4096) ![0, 0] S256x4096.size inb_S256x4096_S256x4096_0_0).toLoadRect (View.loadsAt_vmem h_S256x4096)) fun xb =>
  .op (.load wvM (Rect.unit (s := S4096x512) ![0, 0] S4096x512.size inb_S4096x512_S4096x512_0_0).toLoadRect (View.loadsAt_vmem h_S4096x512)) fun wv =>
  k xb wv

/-- Store the device's own block into its rows of the result. -/
def ownStep (d : Dev nD) (v : FVec F S256x512 .f32) (k : Pg F) : Pg F :=
  .op (.load oM (ownR d).toLoadRect (View.loadsAt_vmem h_S256x512)) fun _ =>
  .op (.store oM (ownR d) v Finset.univ (View.stores_vmem_bits_univ h_S256x512 rfl) (.inl rfl)) fun _ => k

/-- Put a block in slot `s` and start its copy to the device at shift `s`. -/
def sendStep (d : Dev nD) (s : Fin 16) (v : FVec F S1x256x512 .bf16) (k : Pg F) : Pg F :=
  .op (.load yM (slotR s).toLoadRect (View.loadsAt_vmem h_S1x256x512)) fun _ =>
  .op (.store yM (slotR s) v Finset.univ
    (View.stores_vmem h_S1x256x512 ((Memref.isWhole_whole cc0_scratch2).storeExact_slice rfl _ (slot_packed s)) (fun _ => rfl)) (.inl rfl)) fun _ =>
  .op (.enqueueDma (ySlot s) (.remote (Dev.tc (dst s d)) (cSlot s) (.dma (sendS s))) (.dma (recvS s)) (yWords s) (cWords s) ⟨⟨rfl, Or.inl rfl⟩, trivial⟩) fun _ => k

/-- Wait for the block of slot `s` to arrive and store it, widened, into its rows of the result. -/
def recvStep (d : Dev nD) (s : Fin 16) (k : Pg F) : Pg F :=
  .op (.waitDma2 (recvS s) (ySlot s) (cSlot s) (yWords s) (cWords s)) fun _ =>
  .op (.load cM (slotR s).toLoadRect (View.loadsAt_vmem h_S1x256x512)) fun v =>
  .op (.load oM (rowR d s).toLoadRect (View.loadsAt_vmem h_S256x512)) fun _ =>
  .op (.store oM (rowR d s) (blockW v) Finset.univ (View.stores_vmem_bits_univ h_S256x512 rfl) (.inl rfl)) fun _ => k

/-- Wait for the block of slot `s` to have left. -/
def leftStep (s : Fin 16) (k : Pg F) : Pg F :=
  .op (.waitDma2 (sendS s) (cSlot s) (ySlot s) (cWords s) (yWords s)) fun _ => k

/-- The shifts to the other devices, in the order the loops take them. -/
abbrev shifts : List (Fin 16) := [1, 2, 3, 4, 5, 6, 7, 8, 9, 10, 11, 12, 13, 14, 15]

/-- The departures. -/
def departures (k : Pg F) : Pg F := shifts.foldr leftStep k
/-- The arrivals. -/
def arrivals (d : Dev nD) (k : Pg F) : Pg F := shifts.foldr (recvStep d) k
/-- The products for the other devices. -/
def products (d : Dev nD) (k : Pg F) : Pg F :=
  shifts.foldr (fun s k => fetchStep d s fun xb wv => sendStep d s (blockS xb wv) k) k
/-- The signals. -/
def signals (d : Dev nD) (k : Pg F) : Pg F := shifts.foldr (sigStep d) k

/-- The whole body. -/
def steps : Pg F :=
  .op .deviceId fun d => signals d <| barStep <| castStep <| fetchStep d 0 fun xb wv => ownStep d (blockF xb wv) <|
    products d <| arrivals d <| departures (.ret ⟨⟩)

set_option maxRecDepth 65536 in
set_option maxHeartbeats 4000000 in
/-- The printed body is the sequence of steps. -/
theorem body_eq :
    cc0_body (F := F) xM (Memref.isWhole_whole _) wM (Memref.isWhole_whole _) oM (Memref.isWhole_whole _) xbM (Memref.isWhole_whole _)
      wvM (Memref.isWhole_whole _) yM (Memref.isWhole_whole _) cM (Memref.isWhole_whole _) cc0_scratch4 cc0_scratch5 cc0_scratch6 = steps := by
  rfl

end Cert.KernelIdeal.AllToAll

end
-- ==== Proof.Schedule.lean ====
/-
The protocol of the exchange: which semaphore cells the devices share, what each unit counted on a cell hands to its owner,
what each device owes the others at the start, and the order of levels that lets every wait end.
-/
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 16)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_lands : (ER (F := F)).LandsIn (upEmb : UEmb _ 𝕄) := by unfold ER; infer_instance
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

theorem bwd_fwd : ∀ (c : Dev nD) (s : Fin 16), bwd (fwd c s) s = c := by decide +kernel
theorem fwd_bwd : ∀ (c : Dev nD) (s : Fin 16), fwd (bwd c s) s = c := by decide +kernel
theorem fwd_neg : ∀ (c : Dev nD) (s : Fin 16), fwd (fwd c s) (-s) = c := by decide +kernel
theorem bwd_zero : ∀ c : Dev nD, bwd c 0 = c := by decide +kernel

/-- Going `s` places forward, as a permutation of the devices. -/
def rot (s : Fin 16) : Dev nD ≃ Dev nD := ⟨fun c => fwd c s, fun c => bwd c s, fun c => bwd_fwd c s, fun c => fwd_bwd c s⟩

/-! ## The cells -/

/-- A device's shared cells: its barrier, its sixteen departures, its sixteen arrivals. -/
abbrev Ck : Type := Unit ⊕ (Fin 16 ⊕ Fin 16)

def csem : Ck → SemLoc sig
  | .inl _ => .reg barS
  | .inr (.inl s) => .dma (sendS s)
  | .inr (.inr s) => .dma (recvS s)

/-- Which of the shared cells a semaphore is. -/
def ckOf : SemLoc sig → Option Ck
  | .reg q => if q = barS then some (.inl ()) else none
  | .dma q =>
    if h : q.val < 3 then none
    else if h : q.val < 19 then some (.inr (.inl ⟨q.val - 3, by omega⟩))
    else if h : q.val < 35 then some (.inr (.inr ⟨q.val - 19, by omega⟩))
    else none

theorem ckOf_csem : ∀ k : Ck, ckOf (csem k) = some k := by decide +kernel
theorem ckOf_bar : ckOf (.reg barS) = some (.inl ()) := ckOf_csem (.inl ())
theorem ckOf_send (s : Fin 16) : ckOf (.dma (sendS s)) = some (.inr (.inl s)) := ckOf_csem (.inr (.inl s))
theorem ckOf_recv (s : Fin 16) : ckOf (.dma (recvS s)) = some (.inr (.inr s)) := ckOf_csem (.inr (.inr s))

abbrev kcell (ck : Dev nD × Ck) : GSem nD τ sig := ((ck.1 : Thread nD τ), csem ck.2)
abbrev barCell (c : Dev nD) : GSem nD τ sig := ((c : Thread nD τ), .reg barS)
abbrev sendCell (c : Dev nD) (s : Fin 16) : GSem nD τ sig := ((c : Thread nD τ), .dma (sendS s))
abbrev recvCell (c : Dev nD) (s : Fin 16) : GSem nD τ sig := ((c : Thread nD τ), .dma (recvS s))

/-- The units one block's transfer counts. -/
def N : ℕ := (cSlot 0).view.dmaCredit
theorem N_pos : 0 < N := View.dmaCredit_pos _ (by decide)
theorem N_cSlot (s : Fin 16) : (cSlot s).view.dmaCredit = N := rfl
theorem N_ySlot (s : Fin 16) : (ySlot s).view.dmaCredit = N := rfl

/-! ## Contents -/

/-- Device `c`'s rows of the first operand. -/
def xstg (c : Dev nD) : (cc0_stg0_0 : Ref sig .tc).ty.Contents (Elt F) :=
  (win0_0.blk (0 : Fin 1)).view.read (Elt F) ((s₀ m ρ).mem ((c : Thread nD τ).loc main_arg0))

/-- The same, rounded. -/
def xbv (c : Dev nD) : Vec F S256x4096 .bf16 := k0_pay1 (xstg m ρ c)
/-- The columns of the second operand device `c` takes at shift `s`. -/
def wv (c : Dev nD) (s : Fin 16) : Vec F S4096x512 .f32 := (wCol c s).view.read (Elt F) (m ((c : Thread nD τ).loc main_arg1))
/-- The block that arrives on device `c` at shift `s`. -/
def recvVal (c : Dev nD) (s : Fin 16) : FVec F S256x512 .bf16 := blockB (xbv m ρ (bwd c s)) (wv m (bwd c s) s)
/-- The block of the result device `c` holds in the rows of the device `s` places before it. -/
def outBlock (c : Dev nD) (s : Fin 16) : FVec F S256x512 .f32 :=
  if s = 0 then blockF (xbv m ρ c) (wv m c 0) else extf .f32 (recvVal m ρ c s) bitsLt_bf16_f32

/-- Slot `s` of the landing buffer of device `c`, at some contents. -/
def anyC (c : Dev nD) (s : Fin 16) : sProp 𝕄 :=
  iprop(∃ f : Buf (Elt F) ((cSlot s).view.loc (c : Thread nD τ)), (cSlot s).view.loc (c : Thread nD τ) ↦[(cSlot s).view.set]{fullShare} f)
/-- Slot `s` of the outgoing buffer of device `c`, at some contents. -/
def anyY (c : Dev nD) (s : Fin 16) : sProp 𝕄 :=
  iprop(∃ f : Buf (Elt F) ((ySlot s).view.loc (c : Thread nD τ)), (ySlot s).view.loc (c : Thread nD τ) ↦[(ySlot s).view.set]{fullShare} f)
/-- Slot `s` of the landing buffer of device `c`, holding the block sent to it. -/
def gotC (c : Dev nD) (s : Fin 16) : sProp 𝕄 :=
  owns (c : Thread nD τ) (cSlot s) fullShare (recvVal m ρ c s)

instance anyC_storable (c : Dev nD) (s : Fin 16) : BI.Storable (upEmb : UEmb _ 𝕄) (anyC (F := F) c s) := by unfold anyC; infer_instance
instance anyY_storable (c : Dev nD) (s : Fin 16) : BI.Storable (upEmb : UEmb _ 𝕄) (anyY (F := F) c s) := by unfold anyY; infer_instance
instance gotC_storable (c : Dev nD) (s : Fin 16) : BI.Storable (upEmb : UEmb _ 𝕄) (gotC (F := F) m ρ c s) := by unfold gotC owns; infer_instance

theorem gotC_any (c : Dev nD) (s : Fin 16) : gotC m ρ c s ⊢ anyC c s := by
  unfold gotC anyC owns
  iintro ⟨%f, -, H⟩
  iexists f; iexact H

/-! ## The schedule -/

def dutiesOf : Option Ck → Finset (Fin 16)
  | some (.inl _) => Finset.univ.erase 0
  | some (.inr (.inl s)) => if s = 0 then ∅ else {0}
  | some (.inr (.inr s)) => if s = 0 then ∅ else {0}
  | none => ∅

def amountFor : Option Ck → ℕ
  | some (.inl _) => 1
  | _ => N

def payloadOf (c : Dev nD) (d : Fin 16) : Option Ck → sProp 𝕄
  | some (.inl _) => anyC (fwd c d) d
  | some (.inr (.inl s)) => anyY c s
  | some (.inr (.inr s)) => gotC m ρ c s
  | none => iprop(emp)

/-- One round. A barrier cell has a duty of one unit from each other device, which hands the owner the slot of that device's landing
    buffer it will write; a departure's cell one duty, handing the slot back; an arrival's cell one duty, handing over the landed block. -/
def rd : Rounds.Schedule (GSem nD τ sig) (Fin 16) 𝕄 where
  duties g r := if r = 0 ∧ g.1.2 = .tc then dutiesOf (ckOf g.2) else ∅
  unitless _ := False
  amount g _ _ := amountFor (ckOf g.2)
  payload g _ d := payloadOf m ρ g.1.1 d (ckOf g.2)
  amount_pos g _ _ _ := by
    unfold amountFor; split
    · exact Nat.one_pos
    · exact N_pos

instance rd_payload_storable (g : GSem nD τ sig) (r : ℕ) (d : Fin 16) :
    BI.Storable (upEmb : UEmb _ 𝕄) ((rd (F := F) m ρ).payload g r d) := by
  show BI.Storable upEmb (payloadOf m ρ g.1.1 d (ckOf g.2))
  unfold payloadOf
  split <;> infer_instance

section Tables
variable (c : Dev nD) (s : Fin 16)

theorem duties_bar : (rd (F := F) m ρ).duties (barCell c) 0 = Finset.univ.erase 0 := by
  dsimp only [rd]; rw [if_pos ⟨rfl, rfl⟩, ckOf_bar]; rfl
theorem duties_send (hs : s ≠ 0) : (rd (F := F) m ρ).duties (sendCell c s) 0 = {0} := by
  dsimp only [rd]; rw [if_pos ⟨rfl, rfl⟩, ckOf_send]; exact if_neg hs
theorem duties_recv (hs : s ≠ 0) : (rd (F := F) m ρ).duties (recvCell c s) 0 = {0} := by
  dsimp only [rd]; rw [if_pos ⟨rfl, rfl⟩, ckOf_recv]; exact if_neg hs
theorem duties_later (g : GSem nD τ sig) : ∀ r, 1 ≤ r → (rd (F := F) m ρ).duties g r = ∅ :=
  fun r hr => by dsimp only [rd]; rw [if_neg fun h => by omega]
theorem duties_send_zero : ∀ r, 0 ≤ r → (rd (F := F) m ρ).duties (sendCell c 0) r = ∅ := fun r _ => by
  dsimp only [rd]; rw [ckOf_send]; split <;> rfl
theorem duties_recv_zero : ∀ r, 0 ≤ r → (rd (F := F) m ρ).duties (recvCell c 0) r = ∅ := fun r _ => by
  dsimp only [rd]; rw [ckOf_recv]; split <;> rfl

theorem amount_bar (d : Fin 16) : (rd (F := F) m ρ).amount (barCell c) 0 d = 1 := by dsimp only [rd]; rw [ckOf_bar]; rfl
theorem amount_send (d : Fin 16) : (rd (F := F) m ρ).amount (sendCell c s) 0 d = N := by dsimp only [rd]; rw [ckOf_send]; rfl
theorem amount_recv (d : Fin 16) : (rd (F := F) m ρ).amount (recvCell c s) 0 d = N := by dsimp only [rd]; rw [ckOf_recv]; rfl

theorem expect_bar : (rd (F := F) m ρ).expect (barCell c) 0 = 15 := by
  unfold Schedule.expect Schedule.amountOf
  rw [duties_bar, Finset.sum_congr rfl fun d _ => amount_bar m ρ c d, Finset.sum_const, smul_eq_mul]; decide
theorem expect_send (hs : s ≠ 0) : (rd (F := F) m ρ).expect (sendCell c s) 0 = N := by
  unfold Schedule.expect Schedule.amountOf; rw [duties_send m ρ c s hs, Finset.sum_singleton, amount_send]
theorem expect_recv (hs : s ≠ 0) : (rd (F := F) m ρ).expect (recvCell c s) 0 = N := by
  unfold Schedule.expect Schedule.amountOf; rw [duties_recv m ρ c s hs, Finset.sum_singleton, amount_recv]

theorem payload_bar (d : Fin 16) : (rd (F := F) m ρ).payload (barCell c) 0 d = anyC (fwd c d) d := by dsimp only [rd]; rw [ckOf_bar]; rfl
theorem payload_send (d : Fin 16) : (rd (F := F) m ρ).payload (sendCell c s) 0 d = anyY c s := by dsimp only [rd]; rw [ckOf_send]; rfl
theorem payload_recv (d : Fin 16) : (rd (F := F) m ρ).payload (recvCell c s) 0 d = gotC m ρ c s := by dsimp only [rd]; rw [ckOf_recv]; rfl

/-- All of the barrier cell's round: the slots, on the other devices, that this device will write. -/
theorem rest_bar : bigSep ((rd (F := F) m ρ).duties (barCell c) 0 \ ∅) (fun d => (rd (F := F) m ρ).payload (barCell c) 0 d)
    = bigSep (Finset.univ.erase 0) fun s => anyC (fwd c s) s := by
  rw [Finset.sdiff_empty, duties_bar]; exact bigSep_congr fun d _ => payload_bar m ρ c d
theorem rest_send (hs : s ≠ 0) :
    bigSep ((rd (F := F) m ρ).duties (sendCell c s) 0 \ ∅) (fun d => (rd (F := F) m ρ).payload (sendCell c s) 0 d) = anyY c s := by
  rw [Finset.sdiff_empty, duties_send m ρ c s hs, bigSep_singleton, payload_send]
theorem rest_recv (hs : s ≠ 0) :
    bigSep ((rd (F := F) m ρ).duties (recvCell c s) 0 \ ∅) (fun d => (rd (F := F) m ρ).payload (recvCell c s) 0 d) = gotC m ρ c s := by
  rw [Finset.sdiff_empty, duties_recv m ρ c s hs, bigSep_singleton, payload_recv]

end Tables

/-! ## What each device owes; the levels -/

/-- What device `c` owes the arrivals of the devices at the shifts `l`. -/
def owedRecv (c : Dev nD) : List (Fin 16) → CellTallies nD τ sig Unit
  | [] => 0
  | s :: l => owedRecv c l + tallyAt (recvCell (fwd c s) s) () N
/-- And a unit to the barriers of the devices at the shifts `l`. -/
def owedBar (c : Dev nD) : List (Fin 16) → CellTallies nD τ sig Unit
  | [] => owedRecv c shifts
  | s :: l => owedBar c l + tallyAt (barCell (fwd c s)) () 1
def O₀ (c : Dev nD) : CellTallies nD τ sig Unit := owedBar c shifts

def L (g : GSem nD τ sig) : Finset Unit := if g.1.2 = .tc then {()} else ∅
def lvOf : Option Ck → ℕ
  | some (.inl _) => 1
  | some (.inr (.inr _)) => 2
  | _ => 0
/-- Barriers at one, arrivals at two, everything else at zero. -/
def lv (g : GSem nD τ sig) (_ : Unit) : ℕ := lvOf (ckOf g.2)

theorem L_of_ne (g : GSem nD τ sig) (h : g.1.2 ≠ .tc) : L g = ∅ := if_neg h
theorem lv_bar (c : Dev nD) : lv (barCell c) () = 1 := by unfold lv; rw [ckOf_bar]; rfl
theorem lv_recv (c : Dev nD) (s : Fin 16) : lv (recvCell c s) () = 2 := by unfold lv; rw [ckOf_recv]; rfl

theorem tallyAt_pos {g g' : GSem nD τ sig} {k : ℕ} {u : Unit} (h : 0 < (tallyAt g () k : CellTallies nD τ sig Unit) g' u) : g' = g := by
  rw [tallyAt_apply] at h; by_contra hn; rw [if_neg fun h' => hn h'.1] at h; exact Nat.lt_irrefl 0 h

theorem owedRecv_pos (c : Dev nD) {g : GSem nD τ sig} {u : Unit} : ∀ l : List (Fin 16), 0 < owedRecv c l g u → g.1.2 = .tc ∧ 1 < lv g u
  | [], h => absurd h (Nat.lt_irrefl 0)
  | s :: l, h => by
    rcases Nat.eq_zero_or_pos (owedRecv c l g u) with h0 | h0
    · rw [owedRecv, Pi.add_apply, Finsupp.add_apply, h0, Nat.zero_add] at h
      rw [tallyAt_pos h]; exact ⟨rfl, by rw [lv_recv]; decide⟩
    · exact owedRecv_pos c l h0

theorem owedBar_pos (c : Dev nD) {g : GSem nD τ sig} {u : Unit} : ∀ l : List (Fin 16), 0 < owedBar c l g u → g.1.2 = .tc ∧ 0 < lv g u
  | [], h => ⟨(owedRecv_pos c _ h).1, Nat.lt_of_succ_lt (owedRecv_pos c _ h).2⟩
  | s :: l, h => by
    rcases Nat.eq_zero_or_pos (owedBar c l g u) with h0 | h0
    · rw [owedBar, Pi.add_apply, Finsupp.add_apply, h0, Nat.zero_add] at h
      rw [tallyAt_pos h]; exact ⟨rfl, by rw [lv_bar]; decide⟩
    · exact owedBar_pos c l h0

/-- A device may wait on a cell at or below a level all it owes lies above. -/
theorem mayWait_below (c : Dev nD) (sm : SemLoc sig) (n : ℕ) (hsm : lvOf (ckOf sm) ≤ n) (O : CellTallies nD τ sig Unit)
    (hO : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp]; unfold L; rw [if_pos rfl]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

theorem mayWait_copy (c : Dev nD) (l : List (Fin 16)) : (levAts L lv : sProp 𝕄) ⊢ MayWait (c : Thread nD τ) (.dma copyS) () (owedRecv c l) :=
  mayWait_below c _ 0 (by decide) _ fun g u h => ⟨(owedRecv_pos c l h).1, Nat.lt_of_succ_lt (owedRecv_pos c l h).2⟩
theorem mayWait_bar (c : Dev nD) : (levAts L lv : sProp 𝕄) ⊢ MayWait (c : Thread nD τ) (.reg barS) () (owedRecv c shifts) :=
  mayWait_below c _ 1 (by decide) _ fun g u h => owedRecv_pos c _ h
theorem mayWait_stage (c : Dev nD) (q : DmaSem sig) (hq : lvOf (ckOf (.dma q)) = 0) (O : CellTallies nD τ sig Unit) (hO : O = O₀ c ∨ O = 0) :
    (levAts L lv : sProp 𝕄) ⊢ MayWait (c : Thread nD τ) (.dma q) () O := by
  rcases hO with rfl | rfl
  · exact mayWait_below c _ 0 (Nat.le_of_eq hq) _ fun g u h => owedBar_pos c _ h
  · rw [MayWait_zero]; iintro -; iempintro

end Cert.KernelIdeal.AllToAll

end
-- ==== Proof.Loops.lean ====
/-
The loops of the body: one rule for a loop over the shifts, and what one pass of each of the four loops does.
-/
module

public import proofs.«01_k».proof.Proof.Schedule

@[expose] public section

noncomputable section

namespace Cert.KernelIdeal.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Running `k` on device `c` ends in `Q`. -/
abbrev runs (c : Dev nD) (k : Pg F) (Q : PUnit → sProp 𝕄) : sProp 𝕄 :=
  wp frame (wpE (defs₀ (F := F)) 𝒱₀ (c : Thread nD τ) none) Set.univ k Q

/-! ## A loop over the shifts -/

theorem bigSep_insert' {I : Type} [DecidableEq I] {s : Finset I} {i : I} (hi : i ∉ s) (Φ : I → sProp 𝕄) :
    bigSep (insert i s) Φ = iprop(Φ i ∗ bigSep s Φ) := bigSep_insert hi
theorem bigSep_at {I : Type} [DecidableEq I] {s : Finset I} {i : I} (hi : i ∈ s) (Φ : I → sProp 𝕄) : bigSep s Φ ⊢ Φ i := bigSep_elim hi

/-- A loop whose pass at `s` takes `I (s :: l)` and `In s` to `I l` and `Out s`. -/
theorem runs_loop (c : Dev nD) (step : Fin 16 → Pg F → Pg F) (I : List (Fin 16) → sProp 𝕄) (In Out : Fin 16 → sProp 𝕄) (Q : PUnit → sProp 𝕄)
    (h : ∀ s l k, s ≠ 0 → s ∉ l → iprop(I (s :: l) ∗ In s ∗ ((I l ∗ Out s) -∗ runs c k Q)) ⊢ runs c (step s k) Q) :
    ∀ (l : List (Fin 16)) (k : Pg F), l.Nodup → 0 ∉ l →
      iprop(I l ∗ bigSep l.toFinset In ∗ ((I [] ∗ bigSep l.toFinset Out) -∗ runs c k Q)) ⊢ runs c (l.foldr step k) Q
  | [], k, _, _ => by
    iintro ⟨HI, -, Hk⟩
    iapply Hk
    isplitl [HI]; · iexact HI
    iempintro
  | s :: l, k, hl, h0 => by
    have hs : s ∉ l := (List.nodup_cons.mp hl).1
    have hs0 : s ≠ 0 := fun e => h0 (e ▸ List.mem_cons_self)
    have hs' : s ∉ l.toFinset := fun e => hs (List.mem_toFinset.mp e)
    rw [List.toFinset_cons, bigSep_insert' hs' In, bigSep_insert' hs' Out, List.foldr_cons]
    refine .trans ?_ (h s l _ hs0 hs)
    iintro ⟨HI, ⟨Hs, Hl⟩, Hk⟩
    isplitl [HI]; · iexact HI
    isplitl [Hs]; · iexact Hs
    iintro ⟨HI, HO⟩
    iapply (runs_loop c step I In Out Q h l k (List.nodup_cons.mp hl).2 fun e => h0 (List.mem_cons_of_mem _ e))
    isplitl [HI]; · iexact HI
    isplitl [Hl]; · iexact Hl
    iintro ⟨HI, HOl⟩
    iapply Hk
    isplitl [HI]; · iexact HI
    isplitl [HO]; · iexact HO
    iexact HOl

theorem shifts_toFinset : shifts.toFinset = Finset.univ.erase 0 := by decide
theorem shifts_nodup : shifts.Nodup := by decide
theorem zero_notMem_shifts : (0 : Fin 16) ∉ shifts := by decide

/-! ## What every pass may use -/

/-- Every cell's invariant, under the names `K`, and that every cell is open at its only round. -/
def records (K : Dev nD × Ck → ℕ) : sProp 𝕄 :=
  iprop((bigSep Finset.univ fun ck : Dev nD × Ck => cellInv ER (rd m ρ) (K ck) (kcell ck))
    ∗ bigSep Finset.univ fun ck : Dev nD × Ck => reached ER (kcell ck) 0)

instance records_persistent (K : Dev nD × Ck → ℕ) : BI.Persistent (records m ρ K) := by unfold records; infer_instance

theorem inv_at (K : Dev nD × Ck → ℕ) (ck : Dev nD × Ck) : records m ρ K ⊢ cellInv ER (rd m ρ) (K ck) (kcell ck) := by
  unfold records; iintro ⟨H, -⟩
  iapply (bigSep_at (Finset.mem_univ ck) fun ck : Dev nD × Ck => (cellInv ER (rd m ρ) (K ck) (kcell ck) : sProp 𝕄)); iexact H
theorem reached_at (K : Dev nD × Ck → ℕ) (ck : Dev nD × Ck) : records m ρ K ⊢ reached ER (kcell ck) 0 := by
  unfold records; iintro ⟨-, H⟩
  iapply (bigSep_at (Finset.mem_univ ck) fun ck : Dev nD × Ck => (reached ER (kcell ck) 0 : sProp 𝕄)); iexact H

/-- The device owes `O`, whatever it has waited for. -/
def owing (c : Dev nD) (O : CellTallies nD τ sig Unit) : sProp 𝕄 := iprop(∃ W, owes (c : Thread nD τ) O W)

variable (K : Dev nD × Ck → ℕ)

/-! ## The signals -/

theorem neg_ne : ∀ s : Fin 16, s ≠ 0 → -s ≠ 0 := by decide

/-- A signal hands the device it names the slot of this device's landing buffer that device will write. -/
theorem runs_sig (c : Dev nD) (s : Fin 16) (l : List (Fin 16)) (k : Pg F) (Q : PUnit → sProp 𝕄) (hs : s ≠ 0) :
    iprop((records m ρ K ∗ owing c (owedBar c (s :: l)))
        ∗ (dutyTok ER (barCell (fwd c s)) 0 (-s) ∗ anyC c (-s))
        ∗ (((records m ρ K ∗ owing c (owedBar c l)) ∗ emp) -∗ runs c k Q)) ⊢ runs c (sigStep c s k) Q := by
  unfold sigStep owing
  rw [dst_eq c s hs]
  iintro ⟨⟨#HR, ⟨%W, HO⟩⟩, ⟨Ht, Hc⟩, Hk⟩
  iapply (Rounds.wp_signal 𝒱₀ ER (rd m ρ) (c : Thread nD τ) none (dst := (fwd c s : Thread nD τ)) (κ := K (fwd c s, .inl ())) (d := -s)
      (by rw [duties_bar]; exact Finset.mem_erase.mpr ⟨neg_ne s hs, Finset.mem_univ _⟩)
      ((amount_bar m ρ (fwd c s) (-s)).trans (by decide)) () (owedBar c l) rfl) $$ [HO Ht Hc]
  · isplitr; · iapply (inv_at m ρ K (fwd c s, .inl ())); iexact HR
    isplitl [HO]; · iexact HO
    isplitl [Ht]; · iexact Ht
    isplitl [Hc]; · rw [payload_bar, fwd_neg]; iexact Hc
    iapply (reached_at m ρ K (fwd c s, .inl ())); iexact HR
  iintro HO
  iapply Hk
  isplitl [HO]
  · isplitr; · iexact HR
    iexists W; iexact HO
  iempintro

/-- The wait for all the others' signals. -/
theorem runs_bar (c : Dev nD) (k : Pg F) (Q : PUnit → sProp 𝕄) :
    iprop(records m ρ K ∗ levAts L lv ∗ owing c (owedRecv c shifts) ∗ cred (tallyAt (barCell c) () 15) ∗ atPos ER (barCell c) 0 ∅ 0
        ∗ ((owing c (owedRecv c shifts) ∗ semVal (barCell c) 0 ∗ bigSep (Finset.univ.erase 0) fun s => anyC (fwd c s) s) -∗ runs c k Q))
      ⊢ runs c (barStep k) Q := by
  unfold barStep owing
  iintro ⟨#HR, #Hlev, ⟨%W, HO⟩, Hcr, Hat, Hk⟩
  iapply (Rounds.wp_wait_rest_token 𝒱₀ ER (rd m ρ) (c : Thread nD τ) none (κ := K (c, .inl ()))
      (wpE_semWait_eq 𝒱₀ (c : Thread nD τ) none Set.univ) (Set.mem_univ _) () (O := owedRecv c shifts) (W := W) (R := 0) (m := 0) (T := ∅)
      (by rw [expect_bar]; decide)) $$ [Hcr HO Hat]
  · isplitr; · iapply (inv_at m ρ K (c, .inl ())); iexact HR
    isplitl [Hcr]; · iexact Hcr
    isplitl [HO]; · iexact HO
    isplitr; · iapply (mayWait_bar c); iexact Hlev
    iexact Hat
  iintro ⟨HO, Hat, -, Hpay⟩
  imod (Rounds.cell_close ER (rd m ρ) (Set.mem_univ (K (c, .inl ()))) (fun h => h) (R := 0 + 1) (duties_later m ρ (barCell c))) $$ [Hat] with Hz
  · isplitr; · iapply (inv_at m ρ K (c, .inl ())); iexact HR
    iexact Hat
  ihave Hp := (Entails.of_eq (rest_bar m ρ c)) $$ Hpay
  iapply Hk
  isplitl [HO]; · iexists _; iexact HO
  isplitl [Hz]; · iexact Hz
  iexact Hp

/-! ## The departures -/

theorem runs_left (c : Dev nD) (s : Fin 16) (l : List (Fin 16)) (k : Pg F) (Q : PUnit → sProp 𝕄) (hs : s ≠ 0) :
    iprop((records m ρ K ∗ owing c 0)
        ∗ (cred (tallyAt (sendCell c s) () N) ∗ atPos ER (sendCell c s) 0 ∅ 0)
        ∗ (((records m ρ K ∗ owing c 0) ∗ (anyY c s ∗ semVal (sendCell c s) 0)) -∗ runs c k Q)) ⊢ runs c (leftStep s k) Q := by
  unfold leftStep owing
  iintro ⟨⟨#HR, ⟨%W, HO⟩⟩, ⟨Hcr, Hat⟩, Hk⟩
  iapply (Rounds.wp_wait_rest_token 𝒱₀ ER (rd m ρ) (c : Thread nD τ) none (κ := K (c, .inr (.inl s)))
      (wpE_waitDma2_eq 𝒱₀ (c : Thread nD τ) none Set.univ) (Set.mem_univ _) () (O := 0) (W := W) (R := 0) (m := 0) (T := ∅)
      (by rw [Nat.zero_add, expect_send m ρ c s hs]; rfl)) $$ [Hcr HO Hat]
  · isplitr; · iapply (inv_at m ρ K (c, .inr (.inl s))); iexact HR
    isplitl [Hcr]; · iexact Hcr
    isplitl [HO]; · iexact HO
    isplitr; · rw [MayWait_zero]; iempintro
    iexact Hat
  iintro ⟨HO, Hat, -, Hpay⟩
  imod (Rounds.cell_close ER (rd m ρ) (Set.mem_univ (K (c, .inr (.inl s)))) (fun h => h) (R := 0 + 1) (duties_later m ρ (sendCell c s))) $$ [Hat] with Hz
  · isplitr; · iapply (inv_at m ρ K (c, .inr (.inl s))); iexact HR
    iexact Hat
  ihave Hp := (Entails.of_eq (rest_send m ρ c s hs)) $$ Hpay
  iapply Hk
  isplitl [HO]
  · isplitr; · iexact HR
    iexists _; iexact HO
  isplitl [Hp]; · iexact Hp
  iexact Hz

/-! ## The arrivals -/

/-- The rows of the result that belong to the device `s` places before `c`. -/
theorem rows_inb : ∀ (c : Dev nD) (s : Fin 16) a, (![256 * (bwd c s).val, 0] : Fin 2 → ℕ) a + S256x512.size a ≤ S4096x512.size a := by decide +kernel
abbrev rows (c : Dev nD) (s : Fin 16) : Rect S4096x512 := Rect.unit (s := S4096x512) ![256 * (bwd c s).val, 0] S256x512.size (rows_inb c s)

theorem rowR_off : ∀ (c : Dev nD) (s : Fin 16), s ≠ 0 → k0_off3 c (BitVec.ofNat 32 s.val) = ![256 * (bwd c s).val, 0] := by decide +kernel
theorem ownR_off : ∀ c : Dev nD, k0_off2 c = ![256 * (bwd c 0).val, 0] := by decide +kernel

theorem rows_disjoint (c : Dev nD) (s t : Fin 16) (h : s ≠ t) : Disjoint (rows c s).set (rows c t).set := by
  have hb : ∀ (c : Dev nD) (s t : Fin 16), s ≠ t → (bwd c s).val ≠ (bwd c t).val := by decide +kernel
  have := hb c s t h
  rw [Finset.disjoint_left]
  intro i hi hj
  have h1 := Rect.mem_set_unit.mp hi 0
  have h2 := Rect.mem_set_unit.mp hj 0
  simp at h1 h2
  omega

/-- The rows written so far hold their blocks. -/
def Good (c : Dev nD) (l : List (Fin 16)) (f : (cc0_stg1_0 : Ref sig .tc).ty.Contents (Elt F)) : Prop :=
  ∀ s, s ∉ l → (oM.view.slice (rows c s)).read (Elt F) f = outBlock m ρ c s

/-- Writing the block of shift `s` into its rows. -/
theorem good_write (c : Dev nD) (s : Fin 16) (l : List (Fin 16)) (f : (cc0_stg1_0 : Ref sig .tc).ty.Contents (Elt F))
    (h : Good m ρ c (s :: l) f) (w : FVec F S256x512 .f32) (hw : w = outBlock m ρ c s)
    (off : Fin 2 → ℕ) (hoff : off = ![256 * (bwd c s).val, 0]) (hin : ∀ a, off a + S256x512.size a ≤ S4096x512.size a) :
    Good m ρ c l ((oM.view.slice (Rect.unit (s := S4096x512) off S256x512.size hin)).write (Elt F) f w Finset.univ) := by
  subst hoff
  intro t ht
  by_cases e : t = s
  · subst e; rw [View.read_write_univ]; exact hw
  · rw [View.read_slice_write_slice_of_disjoint]
    · exact h t (fun hm => (List.mem_cons.mp hm).elim e ht)
    · rw [View.setOn_univ, View.set_slice, View.set_slice]
      exact (Finset.disjoint_map _).mpr (rows_disjoint c t s e)

/-- The result's staging buffer, the rows outside `l` holding their blocks. -/
def outPts (c : Dev nD) (l : List (Fin 16)) : sProp 𝕄 :=
  iprop(∃ f : Buf (Elt F) ((c : Thread nD τ).loc cc0_stg1_0), ⌜Good m ρ c l f⌝ ∗ ((c : Thread nD τ).loc cc0_stg1_0) ↦{fullShare} f)

theorem cSlot_sub (s : Fin 16) : (cM.access (slotR s)).set ⊆ (cSlot s).view.set :=
  (View.set_reshape (cM.view.slice (slotR s)) (squeezes_S1x256x512_S256x512.numel_eq)).symm.subset
theorem ySlot_sub (s : Fin 16) : (yM.access (slotR s)).set ⊆ (ySlot s).view.set :=
  (View.set_reshape (yM.view.slice (slotR s)) (squeezes_S1x256x512_S256x512.numel_eq)).symm.subset

theorem arrived (c : Dev nD) (s : Fin 16) (hs : s ≠ 0) (f : Buf (Elt F) ((cSlot s).view.loc (c : Thread nD τ)))
    (hf : (cSlot s).view.read (Elt F) f = recvVal m ρ c s) :
    blockW (cM.view.readAt (Elt F) (slotR s).toLoadRect f) = outBlock m ρ c s := by
  unfold blockW outBlock
  rw [if_neg hs, ← hf]
  rfl

theorem runs_recv (c : Dev nD) (s : Fin 16) (l : List (Fin 16)) (k : Pg F) (Q : PUnit → sProp 𝕄) (hs : s ≠ 0) :
    iprop((records m ρ K ∗ owing c 0 ∗ outPts m ρ c (s :: l))
        ∗ (cred (tallyAt (recvCell c s) () N) ∗ atPos ER (recvCell c s) 0 ∅ 0)
        ∗ (((records m ρ K ∗ owing c 0 ∗ outPts m ρ c l) ∗ (anyC c s ∗ semVal (recvCell c s) 0)) -∗ runs c k Q)) ⊢ runs c (recvStep c s k) Q := by
  unfold recvStep owing outPts
  iintro ⟨⟨#HR, ⟨%W, HO⟩, ⟨%fo, %hgood, Hout⟩⟩, ⟨Hcr, Hat⟩, Hk⟩
  iapply (Rounds.wp_wait_rest_token 𝒱₀ ER (rd m ρ) (c : Thread nD τ) none (κ := K (c, .inr (.inr s)))
      (wpE_waitDma2_eq 𝒱₀ (c : Thread nD τ) none Set.univ) (Set.mem_univ _) () (O := 0) (W := W) (R := 0) (m := 0) (T := ∅)
      (by rw [Nat.zero_add, expect_recv m ρ c s hs]; rfl)) $$ [Hcr HO Hat]
  · isplitr; · iapply (inv_at m ρ K (c, .inr (.inr s))); iexact HR
    isplitl [Hcr]; · iexact Hcr
    isplitl [HO]; · iexact HO
    isplitr; · rw [MayWait_zero]; iempintro
    iexact Hat
  iintro ⟨HO, Hat, -, Hpay⟩
  imod (Rounds.cell_close ER (rd m ρ) (Set.mem_univ (K (c, .inr (.inr s)))) (fun h => h) (R := 0 + 1) (duties_later m ρ (recvCell c s))) $$ [Hat] with Hz
  · isplitr; · iapply (inv_at m ρ K (c, .inr (.inr s))); iexact HR
    iexact Hat
  ihave Hp := (Entails.of_eq (rest_recv m ρ c s hs)) $$ Hpay
  unfold gotC owns
  icases Hp with ⟨%fc, %hfc, Hc⟩
  iapply (wp_load_rect 𝒱₀ (c : Thread nD τ) none Set.univ (m := cM) (r := slotR s) (S := (cSlot s).view.set) (cSlot_sub s)) $$ Hc; iintro Hc
  iapply (wp_load 𝒱₀ (c : Thread nD τ) none Set.univ (m := oM) (Finset.subset_univ _)) $$ Hout; iintro Hout
  iapply (wp_store 𝒱₀ (c : Thread nD τ) none Set.univ (m := oM) (r := rowR c s) (Mk := Finset.univ) (Finset.subset_univ _)) $$ Hout; iintro Hout
  iapply Hk
  isplitl [HO Hout]
  · isplitr; · iexact HR
    isplitl [HO]; · iexists _; iexact HO
    iexists _
    isplitr
    swap; · iexact Hout
    ipureintro
    exact good_write m ρ c s l fo hgood _ (arrived m ρ c s hs fc hfc) _ (rowR_off c s hs) _
  isplitl [Hc]
  · unfold anyC; iexists _; iexact Hc
  iexact Hz

end Cert.KernelIdeal.AllToAll

end
-- ==== Proof.Products.lean ====
/-
The products: rounding the device's rows, fetching columns, storing the device's own block, and sending a block to another device.
-/
module

public import proofs.«01_k».proof.Proof.Loops
public import Idealize.ShloMosaic.Lib.Pipeline.Value

@[expose] public section

noncomputable section

namespace Cert.KernelIdeal.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Ck → ℕ)

theorem hz : (![0, 0] : Fin 2 → Nat) = fun _ => 0 := funext fun a => by fin_cases a <;> rfl

/-- The device's rows, as staged. -/
def xPts (c : Dev nD) : sProp 𝕄 := ((c : Thread nD τ).loc cc0_stg0_0) ↦{fullShare} xstg m ρ c
/-- The rounded rows. -/
def xbPts (c : Dev nD) : sProp 𝕄 := ((c : Thread nD τ).loc cc0_scratch0) ↦{fullShare} xbv m ρ c
/-- The second operand, whole. -/
def wPts (c : Dev nD) : sProp 𝕄 := ((c : Thread nD τ).loc main_arg1) ↦{fullShare} m ((c : Thread nD τ).loc main_arg1)
/-- A whole buffer at some contents. -/
def anyAt (c : Dev nD) (b : Ref sig .tc) : sProp 𝕄 :=
  iprop(∃ f : Buf (Elt F) ((c : Thread nD τ).loc b), ((c : Thread nD τ).loc b) ↦{fullShare} f)

/-! ## Rounding the rows -/

theorem runs_cast (c : Dev nD) (k : Pg F) (Q : PUnit → sProp 𝕄) :
    iprop(xPts m ρ c ∗ anyAt c cc0_scratch0 ∗ ((xPts m ρ c ∗ xbPts m ρ c) -∗ runs c k Q)) ⊢ runs c (castStep k) Q := by
  unfold castStep xPts anyAt xbPts
  iintro ⟨Hx, ⟨%f, Hb⟩, Hk⟩
  iapply (wp_load 𝒱₀ (c : Thread nD τ) none Set.univ (m := xM) (Finset.subset_univ _)) $$ Hx; iintro Hx
  rw [show (xM : Memref sig .tc .vmem S256x4096 .f32).view.readAt (Elt F)
      (Rect.unit (s := S256x4096) ![0, 0] S256x4096.size inb_S256x4096_S256x4096_0_0).toLoadRect (xstg m ρ c) = xstg m ρ c
    from Memref.readAt_unit_zero (Elt F) cc0_stg0_0 hz _ _]
  iapply (wp_load 𝒱₀ (c : Thread nD τ) none Set.univ (m := xbM) (Finset.subset_univ _)) $$ Hb; iintro Hb
  iapply (wp_store 𝒱₀ (c : Thread nD τ) none Set.univ (m := xbM)
    (r := Rect.unit (s := S256x4096) ![0, 0] S256x4096.size inb_S256x4096_S256x4096_0_0) (Mk := Finset.univ) (Finset.subset_univ _)) $$ Hb; iintro Hb
  rw [show (xbM.access (Rect.unit (s := S256x4096) ![0, 0] S256x4096.size inb_S256x4096_S256x4096_0_0) : View sig .tc _ _ _).write (Elt F) f
      (k0_pay1 (xstg m ρ c)) Finset.univ = xbv m ρ c
    from Memref.write_access_unit_zero_univ (Elt F) cc0_scratch0 hz _ f _]
  iapply Hk
  isplitl [Hx] <;> iassumption

/-! ## Fetching columns -/

/-- The second operand whole is the columns a fetch reads and the rest. -/
theorem wPts_split (c : Dev nD) (s : Fin 16) :
    wPts m c ⊣⊢ iprop(((wCol c s).view.loc (c : Thread nD τ) ↦[(wCol c s).view.set]{fullShare} m ((c : Thread nD τ).loc main_arg1))
      ∗ ((c : Thread nD τ).loc main_arg1) ↦[Finset.univ \ (wCol c s).view.set]{fullShare} m ((c : Thread nD τ).loc main_arg1)) := by
  unfold wPts
  exact pointsTo_split_subset (ℓ := (c : Thread nD τ).loc main_arg1) (I := (wCol c s).view.set) (Finset.subset_univ _)

theorem runs_fetch (c : Dev nD) (s : Fin 16) (l : List (Fin 16)) (k : Vec F S256x4096 .bf16 → Vec F S4096x512 .f32 → Pg F) (Q : PUnit → sProp 𝕄) :
    iprop(levAts L lv ∗ owing c (owedRecv c l) ∗ (xbPts m ρ c ∗ wPts m c ∗ anyAt c cc0_scratch1 ∗ semVal ((c : Thread nD τ), .dma copyS) 0)
        ∗ ((owing c (owedRecv c l) ∗ (xbPts m ρ c ∗ wPts m c ∗ anyAt c cc0_scratch1 ∗ semVal ((c : Thread nD τ), .dma copyS) 0))
            -∗ runs c (k (xbv m ρ c) (wv m c s)) Q)) ⊢ runs c (fetchStep c s k) Q := by
  unfold fetchStep owing xbPts anyAt
  iintro ⟨#Hlev, ⟨%W, HO⟩, ⟨Hxb, Hw, ⟨%f, Hv⟩, Hz⟩, Hk⟩
  ihave Hw' := (wPts_split m c s).1 $$ Hw
  icases Hw' with ⟨Hws, Hwr⟩
  iapply (Transfers.wp_dmaLocal EC 𝒱₀ (c : Thread nD τ) none (dst := wvM) (src := wCol c s) (Sd := Finset.univ) (fd := f)
    (fs := m ((c : Thread nD τ).loc main_arg1)) () wvM.view.dmaCredit rfl (View.dmaCredit_pos _ (by decide)) (Finset.subset_univ _)) $$ [Hws Hv Hz]
  · isplitl [Hws]; · iexact Hws
    isplitl [Hv]; · iexact Hv
    iexact Hz
  iintro Hfl
  iapply (Transfers.wp_waitLocalO EC 𝒱₀ (c : Thread nD τ) none (dstw := wvM) () (N := wvM.view.dmaCredit) rfl (O := owedRecv c l) (W := W)) $$ [Hfl HO]
  · isplitl [Hfl]; · iexact Hfl
    isplitl [HO]; · iexact HO
    iapply (mayWait_copy c l); iexact Hlev
  iintro ⟨⟨Hv, Hws⟩, Hz, HO⟩
  ihave Hw := (wPts_split m c s).2 $$ [Hws Hwr]
  · isplitl [Hws]; · iexact Hws
    iexact Hwr
  iapply (wp_load 𝒱₀ (c : Thread nD τ) none Set.univ (m := xbM) (Finset.subset_univ _)) $$ Hxb; iintro Hxb
  rw [show (xbM : Memref sig .tc .vmem S256x4096 .bf16).view.readAt (Elt F)
      (Rect.unit (s := S256x4096) ![0, 0] S256x4096.size inb_S256x4096_S256x4096_0_0).toLoadRect (xbv m ρ c) = xbv m ρ c
    from Memref.readAt_unit_zero (Elt F) cc0_scratch0 hz _ _]
  iapply (wp_load 𝒱₀ (c : Thread nD τ) none Set.univ (m := wvM) (Finset.subset_univ _)) $$ Hv; iintro Hv
  rw [show (wvM : Memref sig .tc .vmem S4096x512 .f32).view.readAt (Elt F)
      (Rect.unit (s := S4096x512) ![0, 0] S4096x512.size inb_S4096x512_S4096x512_0_0).toLoadRect
        ((wvM : Memref sig .tc .vmem S4096x512 .f32).view.write (Elt F) f (ReadAs.same.apply ((wCol c s).view.read (Elt F) (m ((c : Thread nD τ).loc main_arg1)))) Finset.univ)
        = wv m c s
    from (Memref.readAt_unit_zero (Elt F) cc0_scratch1 hz _ _).trans (View.write_whole_univ cc0_scratch1 _ _)]
  iapply Hk
  isplitl [HO]; · iexists _; iexact HO
  isplitl [Hxb]; · iexact Hxb
  isplitl [Hw]; · iexact Hw
  isplitl [Hv]; · iexists _; iexact Hv
  iexact Hz

/-! ## The device's own block -/

theorem runs_own (c : Dev nD) (k : Pg F) (Q : PUnit → sProp 𝕄) :
    iprop(anyAt c cc0_stg1_0 ∗ (outPts m ρ c shifts -∗ runs c k Q)) ⊢ runs c (ownStep c (blockF (xbv m ρ c) (wv m c 0)) k) Q := by
  unfold ownStep anyAt outPts
  iintro ⟨⟨%f, Hout⟩, Hk⟩
  iapply (wp_load 𝒱₀ (c : Thread nD τ) none Set.univ (m := oM) (Finset.subset_univ _)) $$ Hout; iintro Hout
  iapply (wp_store 𝒱₀ (c : Thread nD τ) none Set.univ (m := oM) (r := ownR c) (Mk := Finset.univ) (Finset.subset_univ _)) $$ Hout; iintro Hout
  iapply Hk
  iexists _
  isplitr
  swap; · iexact Hout
  ipureintro
  have h0 : Good m ρ c (0 :: shifts) f := fun s hs => absurd (by revert s; decide : ∀ s : Fin 16, s ∈ 0 :: shifts) (fun h => hs (h s))
  exact good_write m ρ c 0 shifts f h0 _ (by unfold outBlock; rw [if_pos rfl]) _ (ownR_off c) _

/-! ## Sending a block -/

theorem slot_read (s : Fin 16) (f : (cc0_scratch2 : Ref sig .tc).ty.Contents (Elt F)) :
    (ySlot s).view.read (Elt F) f = shapeCast S256x512 ((yM.access (slotR s)).read (Elt F) f) shapeCasts_S1x256x512_S256x512 := rfl

theorem slot_stored (c : Dev nD) (s : Fin 16) (xb : Vec F S256x4096 .bf16) (w : Vec F S4096x512 .f32) (f : (cc0_scratch2 : Ref sig .tc).ty.Contents (Elt F)) :
    (ySlot s).view.read (Elt F) ((yM.access (slotR s)).write (Elt F) f (blockS xb w) Finset.univ) = blockB xb w := by
  rw [slot_read]
  refine (congrArg (fun v => shapeCast S256x512 v shapeCasts_S1x256x512_S256x512) (View.read_write_univ (v := yM.access (slotR s)) f (blockS xb w))).trans ?_
  exact shapeCast_shapeCast _ _ _

/-- `Rounds.wp_send_pointsTo` at slot `s`, the transfer addressed to `n`, the device at shift `s`. -/
theorem wp_send_slot (c n : Dev nD) (s : Fin 16) (hs : s ≠ 0) (hn : n = fwd c s)
    {hsc : (cSlot s : Memref sig (Dev.tc n : Thread nD τ).2.kind .vmem S256x512 .bf16).view.ref.isScScratch = false}
    {hsrc : (ySlot s).view.WordExact} {hdst : (cSlot s).view.WordExact}
    {hsem : DmaTarget.Typed .vmem (.dma (recvS s)) (.remote (Dev.tc n : Thread nD τ) (cSlot s) (.dma (sendS s)) hsc)}
    {Q : PUnit → sProp 𝕄} {k : PUnit → Pg F} (fs : Buf (Elt F) ((ySlot s).view.loc (c : Thread nD τ)))
    (hfs : (ySlot s).view.read (Elt F) fs = blockB (xbv m ρ c) (wv m c s))
    (fd : Buf (Elt F) ((cSlot s).view.loc (fwd c s : Thread nD τ))) (O : CellTallies nD τ sig Unit) (W : Waits sig Unit) :
    iprop(records m ρ K
        ∗ ((ySlot s).view.loc (c : Thread nD τ) ↦[(ySlot s).view.set]{fullShare} fs)
        ∗ ((cSlot s).view.loc (fwd c s : Thread nD τ) ↦[(cSlot s).view.set]{fullShare} fd)
        ∗ owes (c : Thread nD τ) (O + tallyAt (recvCell (fwd c s) s) () N) W
        ∗ dutyTok ER (sendCell c s) 0 0 ∗ dutyTok ER (recvCell (fwd c s) s) 0 0)
      ⊢ iprop(((cred (tallyAt (sendCell c s) () N) ∗ owes (c : Thread nD τ) O W) -∗ runs c (k ⟨⟩) Q)
          -∗ runs c (.op (.enqueueDma (ySlot s) (.remote (Dev.tc n : Thread nD τ) (cSlot s) (.dma (sendS s)) hsc) (.dma (recvS s)) hsrc hdst hsem) k) Q) := by
  subst hn
  refine .trans ?_ (Rounds.wp_send_pointsTo 𝒱₀ ER (rd m ρ) (c : Thread nD τ) none (κ₁ := K (c, .inr (.inl s))) (κ₂ := K (fwd c s, .inr (.inr s)))
    (r₁ := 0) (r₂ := 0) (d₁ := 0) (d₂ := 0) (fs := fs) (fd := fd) (q := fullShare)
    (by rw [duties_send m ρ c s hs]; exact Finset.mem_singleton_self _) (by rw [duties_recv m ρ (fwd c s) s hs]; exact Finset.mem_singleton_self _)
    () () N rfl (amount_send m ρ c s 0) (amount_recv m ρ (fwd c s) s 0) O rfl (W := W)
    (by rw [payload_send]; unfold anyY; iintro H; iexists fs; iexact H)
    (by
      rw [payload_recv]; unfold gotC owns
      iintro H
      iexists _
      isplitr
      swap; · iexact H
      ipureintro
      rw [View.read_write_univ, hfs]
      unfold recvVal
      rw [bwd_fwd]))
  iintro ⟨#HR, Hs, Hd, HO, Ht1, Ht2⟩
  isplitr; · iapply (inv_at m ρ K (c, .inr (.inl s))); iexact HR
  isplitr; · iapply (inv_at m ρ K (fwd c s, .inr (.inr s))); iexact HR
  isplitl [Hs]; · iexact Hs
  isplitl [Hd]; · iexact Hd
  isplitl [HO]; · iexact HO
  isplitl [Ht1]; · iexact Ht1
  isplitr; · iapply (reached_at m ρ K (c, .inr (.inl s))); iexact HR
  isplitl [Ht2]; · iexact Ht2
  iapply (reached_at m ρ K (fwd c s, .inr (.inr s))); iexact HR

/-- What the passes of the loop over the products share. -/
def prodInv (c : Dev nD) (l : List (Fin 16)) : sProp 𝕄 :=
  iprop(records m ρ K ∗ levAts L lv ∗ owing c (owedRecv c l) ∗ (xbPts m ρ c ∗ wPts m c ∗ anyAt c cc0_scratch1 ∗ semVal ((c : Thread nD τ), .dma copyS) 0))
/-- What the pass at shift `s` uses up. -/
def prodIn (c : Dev nD) (s : Fin 16) : sProp 𝕄 :=
  iprop((dutyTok ER (sendCell c s) 0 0 ∗ dutyTok ER (recvCell (fwd c s) s) 0 0) ∗ anyY c s ∗ anyC (fwd c s) s)

theorem runs_prod (c : Dev nD) (s : Fin 16) (l : List (Fin 16)) (k : Pg F) (Q : PUnit → sProp 𝕄) (hs : s ≠ 0) :
    iprop(prodInv m ρ K c (s :: l) ∗ prodIn c s ∗ ((prodInv m ρ K c l ∗ cred (tallyAt (sendCell c s) () N)) -∗ runs c k Q))
      ⊢ runs c (fetchStep c s fun xb w => sendStep c s (blockS xb w) k) Q := by
  unfold prodInv prodIn anyY anyC
  iintro ⟨⟨#HR, #Hlev, HO, Hbuf⟩, ⟨⟨Ht1, Ht2⟩, ⟨%fy, Hy⟩, ⟨%fc, Hc⟩⟩, Hk⟩
  iapply (runs_fetch m ρ c s (s :: l))
  isplitr; · iexact Hlev
  isplitl [HO]; · iexact HO
  isplitl [Hbuf]; · iexact Hbuf
  iintro ⟨HO, Hbuf⟩
  unfold sendStep owing
  icases HO with ⟨%W, HO⟩
  iapply (wp_load_rect 𝒱₀ (c : Thread nD τ) none Set.univ (m := yM) (r := slotR s) (S := (ySlot s).view.set) (ySlot_sub s)) $$ Hy; iintro Hy
  iapply (wp_store 𝒱₀ (c : Thread nD τ) none Set.univ (m := yM) (r := slotR s) (Mk := Finset.univ) (S := (ySlot s).view.set) (ySlot_sub s)) $$ Hy; iintro Hy
  iapply (wp_send_slot m ρ K c _ s hs (dst_eq c s hs) _ (slot_stored c s _ _ fy) fc (owedRecv c l) W) $$ [Hy Hc HO Ht1 Ht2]
  · isplitr; · iexact HR
    isplitl [Hy]; · iexact Hy
    isplitl [Hc]; · iexact Hc
    isplitl [HO]; · iexact HO
    isplitl [Ht1]; · iexact Ht1
    iexact Ht2
  iintro ⟨Hcr, HO⟩
  iapply Hk
  isplitl [HO Hbuf]
  · isplitr; · iexact HR
    isplitr; · iexact Hlev
    isplitl [HO]; · iexists W; iexact HO
    iexact Hbuf
  iexact Hcr

end Cert.KernelIdeal.AllToAll

end
-- ==== Proof.Body.lean ====
/-
The body as a whole: the two buffers of sixteen slots cut into slots and rejoined, the contents of the result, and the body run from
what a device starts with to what it ends with.
-/
module

public import proofs.«01_k».proof.Proof.Products

@[expose] public section

noncomputable section

namespace Cert.KernelIdeal.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Slots -/

theorem slots_cover : (Finset.univ : Finset (Fin 16)).biUnion (fun s => (slotR s).set) = Finset.univ := by
  ext i
  simp only [Finset.mem_biUnion, Finset.mem_univ, true_and, iff_true]
  refine ⟨⟨(i 0).val, (i 0).isLt⟩, Rect.mem_set_unit.mpr fun a => ?_⟩
  have := (i a).isLt
  fin_cases a <;> simp_all [S16x256x512, S1x256x512]
theorem slots_disjoint (s t : Fin 16) (h : s ≠ t) : Disjoint (slotR s).set (slotR t).set := by
  rw [Finset.disjoint_left]
  intro i hi hj
  have h1 := Rect.mem_set_unit.mp hi 0
  have h2 := Rect.mem_set_unit.mp hj 0
  have hv : s.val ≠ t.val := fun e => h (Fin.ext e)
  simp at h1 h2
  omega

/-- A whole buffer, at some contents, is its parts along a family that covers it without overlap, each at some contents. -/
theorem anyAt_parts (c : Dev nD) (b : Ref sig .tc) (P : Fin 16 → Finset (Idx ((c : Thread nD τ).loc b)))
    (hc : Finset.univ.biUnion P = Finset.univ) (hd : ∀ s t, s ≠ t → Disjoint (P s) (P t)) :
    anyAt (F := F) c b ⊣⊢ bigSep Finset.univ fun s => iprop(∃ f : Buf (Elt F) ((c : Thread nD τ).loc b), ((c : Thread nD τ).loc b) ↦[P s]{fullShare} f) := by
  constructor
  · unfold anyAt
    iintro ⟨%f, H⟩
    have h1 : (((c : Thread nD τ).loc b) ↦{fullShare} f : sProp 𝕄) = bigSep Finset.univ fun s => ((c : Thread nD τ).loc b) ↦[P s]{fullShare} f := by
      rw [← pointsTo_biUnion Finset.univ P fun s _ t _ h => hd s t h, hc]
    have h2 (s : Fin 16) : (((c : Thread nD τ).loc b) ↦[P s]{fullShare} f : sProp 𝕄)
        ⊢ iprop(∃ f : Buf (Elt F) ((c : Thread nD τ).loc b), ((c : Thread nD τ).loc b) ↦[P s]{fullShare} f) := by
      iintro H; iexists f; iexact H
    iapply ((Entails.of_eq h1).trans (bigSep_mono fun s _ => h2 s))
    iexact H
  · refine (bigSep_exists_pi Finset.univ fun (s : Fin 16) (f : Buf (Elt F) ((c : Thread nD τ).loc b)) =>
      (((c : Thread nD τ).loc b) ↦[P s]{fullShare} f : sProp 𝕄)).trans ?_
    unfold anyAt
    iintro ⟨%fs, H⟩
    ihave H' := (pointsTo_biUnion_join Finset.univ P fs (fs 0) fun s _ t _ h => hd s t h) $$ H
    icases H' with ⟨%g, -, H⟩
    iexists g
    rw [hc]
    iexact H

theorem cSlot_set (s : Fin 16) : (cSlot s).view.set = (slotR s).set :=
  (View.set_reshape (cM.view.slice (slotR s)) (squeezes_S1x256x512_S256x512.numel_eq)).trans (View.set_slice_whole cc0_scratch3 (slotR s))
theorem ySlot_set (s : Fin 16) : (ySlot s).view.set = (slotR s).set :=
  (View.set_reshape (yM.view.slice (slotR s)) (squeezes_S1x256x512_S256x512.numel_eq)).trans (View.set_slice_whole cc0_scratch2 (slotR s))

theorem landing_slots (c : Dev nD) : anyAt (F := F) c cc0_scratch3 ⊣⊢ bigSep Finset.univ fun s => anyC c s :=
  anyAt_parts c cc0_scratch3 (fun s => (cSlot s).view.set)
    ((Finset.biUnion_congr rfl fun s _ => cSlot_set s).trans slots_cover) (fun s t h => by rw [cSlot_set, cSlot_set]; exact slots_disjoint s t h)
theorem outgoing_slots (c : Dev nD) : anyAt (F := F) c cc0_scratch2 ⊣⊢ bigSep Finset.univ fun s => anyY c s :=
  anyAt_parts c cc0_scratch2 (fun s => (ySlot s).view.set)
    ((Finset.biUnion_congr rfl fun s _ => ySlot_set s).trans slots_cover) (fun s t h => by rw [ySlot_set, ySlot_set]; exact slots_disjoint s t h)

/-! ## The result -/

theorem rows_cover (c : Dev nD) : (Finset.univ : Finset (Fin 16)).biUnion (fun s => (rows c s).set) = Finset.univ := by
  have hb : ∀ (c : Dev nD) (q : Fin 16), ∃ s, (bwd c s).val = q.val := by decide +kernel
  ext i
  simp only [Finset.mem_biUnion, Finset.mem_univ, true_and, iff_true]
  have h0 : (i 0).val < 4096 := (i 0).isLt
  have h1 : (i 1).val < 512 := (i 1).isLt
  obtain ⟨s, hs⟩ := hb c ⟨(i 0).val / 256, by omega⟩
  refine ⟨s, Rect.mem_set_unit.mpr fun a => ?_⟩
  fin_cases a
  · show 256 * (bwd c s).val ≤ (i 0).val ∧ (i 0).val < 256 * (bwd c s).val + 256
    rw [hs]; dsimp only; omega
  · show 0 ≤ (i 1).val ∧ (i 1).val < 0 + 512
    omega

/-- The result on device `c`: its own block and the fifteen that arrive, each in its rows. -/
def outAt (c : Dev nD) : (cc0_stg1_0 : Ref sig .tc).ty.Contents (Elt F) := Rect.glue (rows c) (rows_cover c) (outBlock m ρ c)

theorem outAt_emb (c : Dev nD) (s : Fin 16) (y : S256x512.Idx) : outAt m ρ c ((rows c s).emb y) = outBlock m ρ c s y :=
  Rect.glue_emb (rows c) (rows_cover c) (rows_disjoint c) (outBlock m ρ c) s y

theorem good_all (c : Dev nD) (f : (cc0_stg1_0 : Ref sig .tc).ty.Contents (Elt F)) (h : Good m ρ c [] f) : f = outAt m ρ c := by
  funext i
  obtain ⟨s, -, hs⟩ := Finset.mem_biUnion.mp ((rows_cover c).symm ▸ Finset.mem_univ i)
  rw [← Rect.map_emb_univ, Finset.mem_map] at hs
  obtain ⟨y, -, rfl⟩ := hs
  exact (congrFun (h s (List.not_mem_nil)) y).trans (outAt_emb m ρ c s y).symm

/-! ## What a device starts with and ends with -/

/-- The positions of device `c`'s cells and the tokens of the duties it pays. -/
def linear (c : Dev nD) : sProp 𝕄 :=
  iprop((atPos ER (barCell c) 0 ∅ 0 ∗ (bigSep Finset.univ fun s => atPos ER (sendCell c s) 0 ∅ 0) ∗ (bigSep Finset.univ fun s => atPos ER (recvCell c s) 0 ∅ 0))
    ∗ (bigSep Finset.univ fun s => dutyTok ER (barCell (fwd c s)) 0 (-s))
    ∗ (bigSep Finset.univ fun s => dutyTok ER (sendCell c s) 0 0) ∗ (bigSep Finset.univ fun s => dutyTok ER (recvCell (fwd c s) s) 0 0))

/-- The credit device `c` waits with. -/
def creds (c : Dev nD) : sProp 𝕄 :=
  iprop(cred (tallyAt (barCell c) () 15) ∗ bigSep (Finset.univ.erase 0) fun s => cred (tallyAt (recvCell c s) () N))

/-- The four scratch buffers, at some contents. -/
def scratch (c : Dev nD) : sProp 𝕄 :=
  iprop(anyAt c cc0_scratch0 ∗ anyAt c cc0_scratch1 ∗ anyAt c cc0_scratch2 ∗ anyAt c cc0_scratch3)

def start (c : Dev nD) : sProp 𝕄 :=
  iprop((∃ K, records m ρ K ∗ linear c ∗ semVal ((c : Thread nD τ), .dma copyS) 0) ∗ creds c ∗ levAts L lv ∗ wPts m c)
def Φ₀ (c : Dev nD) : sProp 𝕄 := iprop(start m ρ c ∗ scratch c)
def Φ₁ (c : Dev nD) : sProp 𝕄 :=
  iprop(wPts m c ∗ scratch c ∗ semVal (barCell c) 0 ∗ semVal ((c : Thread nD τ), .dma copyS) 0
    ∗ (bigSep Finset.univ fun s => semVal (sendCell c s) 0) ∗ (bigSep Finset.univ fun s => semVal (recvCell c s) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

/-! ## Big conjunctions over the shifts -/

theorem bigSep_pair {I : Type} {S : Finset I} (Φ Ψ : I → sProp 𝕄) : iprop(bigSep S Φ ∗ bigSep S Ψ) ⊢ bigSep S fun i => iprop(Φ i ∗ Ψ i) :=
  Entails.of_eq (bigSep_sep' S Φ Ψ).symm
theorem bigSep_unpair {I : Type} {S : Finset I} (Φ Ψ : I → sProp 𝕄) : (bigSep S fun i => iprop(Φ i ∗ Ψ i)) ⊢ iprop(bigSep S Φ ∗ bigSep S Ψ) :=
  Entails.of_eq (bigSep_sep' S Φ Ψ)
theorem bigSep_zero (Φ : Fin 16 → sProp 𝕄) : bigSep Finset.univ Φ = iprop(Φ 0 ∗ bigSep (Finset.univ.erase 0) Φ) := bigSep_univ_split 0

/-- Taking a shift to its opposite, as a permutation. -/
def opp : Fin 16 ≃ Fin 16 := ⟨fun s => -s, fun s => -s, by decide, by decide⟩
theorem bigSep_opp (Φ : Fin 16 → sProp 𝕄) : bigSep Finset.univ Φ = bigSep Finset.univ fun s => Φ (-s) := bigSep_univ_equiv opp Φ

theorem runs_shifts (c : Dev nD) (step : Fin 16 → Pg F → Pg F) (I : List (Fin 16) → sProp 𝕄) (In Out : Fin 16 → sProp 𝕄) (Q : PUnit → sProp 𝕄)
    (h : ∀ s l k, s ≠ 0 → iprop(I (s :: l) ∗ In s ∗ ((I l ∗ Out s) -∗ runs c k Q)) ⊢ runs c (step s k) Q) (k : Pg F) :
    iprop(I shifts ∗ bigSep (Finset.univ.erase 0) In ∗ ((I [] ∗ bigSep (Finset.univ.erase 0) Out) -∗ runs c k Q)) ⊢ runs c (shifts.foldr step k) Q := by
  rw [← shifts_toFinset]
  exact runs_loop c step I In Out Q (fun s l k hs _ => h s l k hs) shifts k shifts_nodup zero_notMem_shifts

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem runs_device (c : Dev nD) (k : Dev nD → Pg F) (Q : PUnit → sProp 𝕄) : runs c (.op .deviceId k) Q = runs c (k c) Q :=
  wp_deviceId 𝒱₀ (c : Thread nD τ) none Set.univ
theorem runs_end (c : Dev nD) (Q : PUnit → sProp 𝕄) : iprop(|={Set.univ}=> Q ⟨⟩) ⊢ runs c (.ret ⟨⟩) Q := by
  unfold runs; rw [wp_ret]

/-- The body without the pipeline's bookkeeping. -/
theorem runs_steps (K : Dev nD × Ck → ℕ) (c : Dev nD) (Q : PUnit → sProp 𝕄) :
    iprop((records m ρ K ∗ linear c ∗ semVal ((c : Thread nD τ), .dma copyS) 0) ∗ creds c ∗ levAts L lv ∗ wPts m c ∗ scratch c
        ∗ owing c (O₀ c) ∗ xPts m ρ c ∗ anyAt c cc0_stg1_0
        ∗ ((Φ₁ m c ∗ owing c 0 ∗ xPts m ρ c ∗ outPts m ρ c []) -∗ Q ⟨⟩)) ⊢ runs c steps Q := by
  unfold steps signals products arrivals departures linear creds scratch
  rw [runs_device]
  iintro ⟨⟨#HR, ⟨⟨HaB, HaS, HaV⟩, HtB, HtS, HtV⟩, Hzc⟩, ⟨HcB, HcV⟩, #Hlev, Hw, ⟨Hs0, Hs1, Hs2, Hs3⟩, HO, Hx, Hout, Hk⟩
  -- the landing buffer, slot by slot, in the order the signals hand the slots out
  ihave Hc := (landing_slots c).1 $$ Hs3
  ihave Hc := (Entails.of_eq ((bigSep_opp (anyC (F := F) c)).trans (bigSep_zero fun s => anyC c (-s)))) $$ Hc
  icases Hc with ⟨Hc0, Hc⟩
  ihave HtB := (Entails.of_eq (bigSep_zero fun s => (dutyTok ER (barCell (fwd c s)) 0 (-s) : sProp 𝕄))) $$ HtB
  icases HtB with ⟨-, HtB⟩
  ihave Hin := (bigSep_pair (S := Finset.univ.erase 0) (fun s => (dutyTok ER (barCell (fwd c s)) 0 (-s) : sProp 𝕄)) fun s => anyC c (-s)) $$ [HtB Hc]
  · isplitl [HtB] <;> iassumption
  iapply (runs_shifts c (sigStep c) (fun l => iprop(records m ρ K ∗ owing c (owedBar c l)))
    (fun s => iprop(dutyTok ER (barCell (fwd c s)) 0 (-s) ∗ anyC c (-s))) (fun _ => iprop(emp)) Q fun s l k hs => runs_sig m ρ K c s l k Q hs)
  isplitl [HO]
  · isplitr; · iexact HR
    iexact HO
  isplitl [Hin]; · iexact Hin
  iintro ⟨⟨-, HO⟩, -⟩
  -- the wait for the others
  iapply (runs_bar m ρ K c)
  isplitr; · iexact HR
  isplitr; · iexact Hlev
  isplitl [HO]; · iexact HO
  isplitl [HcB]; · iexact HcB
  isplitl [HaB]; · iexact HaB
  iintro ⟨HO, HzB, Hpeer⟩
  -- rounding the rows, the device's own block
  iapply (runs_cast m ρ c)
  isplitl [Hx]; · iexact Hx
  isplitl [Hs0]; · iexact Hs0
  iintro ⟨Hx, Hxb⟩
  iapply (runs_fetch m ρ c 0 shifts)
  isplitr; · iexact Hlev
  isplitl [HO]; · iexact HO
  isplitl [Hxb Hw Hs1 Hzc]
  · isplitl [Hxb]; · iexact Hxb
    isplitl [Hw]; · iexact Hw
    isplitl [Hs1]; · iexact Hs1
    iexact Hzc
  iintro ⟨HO, Hbuf⟩
  iapply (runs_own m ρ c)
  isplitl [Hout]; · iexact Hout
  iintro Hout
  -- the products for the others
  ihave Hy := (outgoing_slots c).1 $$ Hs2
  ihave Hy := (Entails.of_eq (bigSep_zero fun s => anyY (F := F) c s)) $$ Hy
  icases Hy with ⟨Hy0, Hy⟩
  ihave HtS := (Entails.of_eq (bigSep_zero fun s => (dutyTok ER (sendCell c s) 0 0 : sProp 𝕄))) $$ HtS
  icases HtS with ⟨-, HtS⟩
  ihave HtV := (Entails.of_eq (bigSep_zero fun s => (dutyTok ER (recvCell (fwd c s) s) 0 0 : sProp 𝕄))) $$ HtV
  icases HtV with ⟨-, HtV⟩
  ihave H1 := (bigSep_pair (S := Finset.univ.erase 0) (fun s => (dutyTok ER (sendCell c s) 0 0 : sProp 𝕄)) fun s => dutyTok ER (recvCell (fwd c s) s) 0 0) $$ [HtS HtV]
  · isplitl [HtS] <;> iassumption
  ihave H2 := (bigSep_pair (S := Finset.univ.erase 0) (fun s => anyY (F := F) c s) fun s => anyC (fwd c s) s) $$ [Hy Hpeer]
  · isplitl [Hy] <;> iassumption
  ihave Hin := (bigSep_pair (S := Finset.univ.erase 0) (fun s => iprop(dutyTok ER (sendCell c s) 0 0 ∗ dutyTok ER (recvCell (fwd c s) s) 0 0))
    fun s => iprop(anyY (F := F) c s ∗ anyC (fwd c s) s)) $$ [H1 H2]
  · isplitl [H1] <;> iassumption
  iapply (runs_shifts c (fun s k => fetchStep c s fun xb wv => sendStep c s (blockS xb wv) k) (prodInv m ρ K c) (prodIn c)
    (fun s => cred (tallyAt (sendCell c s) () N)) Q fun s l k hs => runs_prod m ρ K c s l k Q hs)
  isplitl [HO Hbuf]
  · unfold prodInv
    isplitr; · iexact HR
    isplitr; · iexact Hlev
    isplitl [HO]; · iexact HO
    iexact Hbuf
  isplitl [Hin]; · unfold prodIn; iexact Hin
  unfold prodInv
  iintro ⟨⟨-, -, HO, ⟨Hxb, Hw, Hs1, Hzc⟩⟩, HcS⟩
  -- the arrivals
  ihave HaV := (Entails.of_eq (bigSep_zero fun s => (atPos ER (recvCell c s) 0 ∅ 0 : sProp 𝕄))) $$ HaV
  icases HaV with ⟨HaV0, HaV⟩
  ihave Hin := (bigSep_pair (S := Finset.univ.erase 0) (fun s => (cred (tallyAt (recvCell c s) () N) : sProp 𝕄)) fun s => atPos ER (recvCell c s) 0 ∅ 0) $$ [HcV HaV]
  · isplitl [HcV] <;> iassumption
  iapply (runs_shifts c (recvStep c) (fun l => iprop(records m ρ K ∗ owing c 0 ∗ outPts m ρ c l))
    (fun s => iprop(cred (tallyAt (recvCell c s) () N) ∗ atPos ER (recvCell c s) 0 ∅ 0)) (fun s => iprop(anyC c s ∗ semVal (recvCell c s) 0)) Q
    fun s l k hs => runs_recv m ρ K c s l k Q hs)
  isplitl [HO Hout]
  · isplitr; · iexact HR
    isplitl [HO]; · iexact HO
    iexact Hout
  isplitl [Hin]; · iexact Hin
  iintro ⟨⟨-, HO, Hout⟩, Harr⟩
  ihave Harr := (bigSep_unpair (S := Finset.univ.erase 0) (fun s => anyC (F := F) c s) fun s => semVal (recvCell c s) 0) $$ Harr
  icases Harr with ⟨Hc, HzV⟩
  -- the departures
  ihave HaS := (Entails.of_eq (bigSep_zero fun s => (atPos ER (sendCell c s) 0 ∅ 0 : sProp 𝕄))) $$ HaS
  icases HaS with ⟨HaS0, HaS⟩
  ihave Hin := (bigSep_pair (S := Finset.univ.erase 0) (fun s => (cred (tallyAt (sendCell c s) () N) : sProp 𝕄)) fun s => atPos ER (sendCell c s) 0 ∅ 0) $$ [HcS HaS]
  · isplitl [HcS] <;> iassumption
  iapply (runs_shifts c leftStep (fun l => iprop(records m ρ K ∗ owing c 0))
    (fun s => iprop(cred (tallyAt (sendCell c s) () N) ∗ atPos ER (sendCell c s) 0 ∅ 0)) (fun s => iprop(anyY c s ∗ semVal (sendCell c s) 0)) Q
    fun s l k hs => runs_left m ρ K c s l k Q hs)
  isplitl [HO]
  · isplitr; · iexact HR
    iexact HO
  isplitl [Hin]; · iexact Hin
  iintro ⟨⟨-, HO⟩, Hdep⟩
  ihave Hdep := (bigSep_unpair (S := Finset.univ.erase 0) (fun s => anyY (F := F) c s) fun s => semVal (sendCell c s) 0) $$ Hdep
  icases Hdep with ⟨Hy, HzS⟩
  -- the two unused cells close too
  iapply (runs_end c Q)
  imod (Rounds.cell_close ER (rd m ρ) (Set.mem_univ (K (c, .inr (.inl 0)))) (fun h => h) (R := 0) (duties_send_zero m ρ c)) $$ [HaS0] with HzS0
  · isplitr; · iapply (inv_at m ρ K (c, .inr (.inl 0))); iexact HR
    iexact HaS0
  imod (Rounds.cell_close ER (rd m ρ) (Set.mem_univ (K (c, .inr (.inr 0)))) (fun h => h) (R := 0) (duties_recv_zero m ρ c)) $$ [HaV0] with HzV0
  · isplitr; · iapply (inv_at m ρ K (c, .inr (.inr 0))); iexact HR
    iexact HaV0
  imodintro
  iapply Hk
  isplitr [HO Hx Hout]
  · unfold Φ₁ scratch
    isplitl [Hw]; · iexact Hw
    isplitl [Hxb Hs1 Hy0 Hy Hc0 Hc]
    · isplitl [Hxb]; · unfold xbPts anyAt; iexists _; iexact Hxb
      isplitl [Hs1]; · iexact Hs1
      isplitl [Hy0 Hy]
      · iapply (outgoing_slots c).2
        iapply (Entails.of_eq (bigSep_zero fun s => anyY (F := F) c s).symm)
        isplitl [Hy0] <;> iassumption
      · iapply (landing_slots c).2
        iapply (Entails.of_eq (bigSep_zero fun s => anyC (F := F) c s).symm)
        isplitl [Hc0]; · iexact Hc0
        iexact Hc
    isplitl [HzB]; · iexact HzB
    isplitl [Hzc]; · iexact Hzc
    isplitl [HzS0 HzS]
    · iapply (Entails.of_eq (bigSep_zero fun s => (semVal (sendCell c s) 0 : sProp 𝕄)).symm)
      isplitl [HzS0] <;> iassumption
    · iapply (Entails.of_eq (bigSep_zero fun s => (semVal (recvCell c s) 0 : sProp 𝕄)).symm)
      isplitl [HzV0] <;> iassumption
  isplitl [HO]; · iexact HO
  isplitl [Hx]; · iexact Hx
  iexact Hout

end Cert.KernelIdeal.AllToAll

end
-- ==== Proof.Obligation.lean ====
/-
The body, from what the pipeline holds before it to what the pipeline holds after it.
-/
module

public import proofs.«01_k».proof.Proof.Body

@[expose] public section

noncomputable section

namespace Cert.KernelIdeal.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body, as the pipeline asks for it -/

theorem owns_all (c : Dev nD) (b : Ref sig .tc) (X : b.ty.Contents (Elt F)) :
    (owns (c : Thread nD τ) (Memref.whole b) fullShare X : sProp 𝕄) = stg c b X := by
  unfold owns; simp only [Memref.view_whole, View.read_whole, View.set_whole]

theorem stg_any (c : Dev nD) (b : Ref sig .tc) (X : b.ty.Contents (Elt F)) : stg c b X ⊢ anyAt c b := by
  unfold anyAt
  iintro ⟨%f, -, H⟩
  iexists f; iexact H

def atStart (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def atEnd (c : Dev nD) : sProp 𝕄 :=
  iprop(Φ₁ m c ∗ (dats m ρ 0 c).owesAt () t0_0.succ ∗ stg c cc0_stg0_0 (xstg m ρ c) ∗ stg c cc0_stg1_0 (outAt m ρ c))

theorem before_x (c : Dev nD) (d) : (dats m ρ 0 c).before (0 : Fin 2) t0_0 d = xstg m ρ c := by
  unfold Dat.before; rw [if_pos (fetch0_0 t0_0)]; rfl

theorem start_steps (c : Dev nD) : atStart m ρ c ⊢ runs c steps (fun _ => atEnd m ρ c) := by
  unfold atStart Φ₀ start Dat.owesAt Pipeline.owesWithin
  rw [show (dats m ρ 0 c).owed t0_0.castSucc = O₀ c from rfl]
  iintro ⟨⟨⟨⟨%K, Hg⟩, Hcr, #Hlev, Hw⟩, Hs⟩, ⟨%W, -, HO⟩, ⟨%d0, %g0, %hg0, Hx⟩, ⟨%d1, Hout⟩⟩
  have hx : g0 = xstg m ρ c := hg0.trans (before_x m ρ c d0)
  subst hx
  iapply (runs_steps m ρ K c fun _ => atEnd m ρ c)
  isplitl [Hg]; · iexact Hg
  isplitl [Hcr]; · iexact Hcr
  isplitr; · iexact Hlev
  isplitl [Hw]; · iexact Hw
  isplitl [Hs]; · iexact Hs
  isplitl [HO]; · unfold owing; iexists W; iexact HO
  isplitl [Hx]; · unfold xPts; iexact Hx
  isplitl [Hout]; · iapply (stg_any c cc0_stg1_0 _); iexact Hout
  iintro ⟨HΦ, HO, Hx, Hout⟩
  unfold atEnd Dat.owesAt Pipeline.owesWithin owing outPts
  rw [show (dats m ρ 0 c).owed t0_0.succ = 0 from rfl]
  icases HO with ⟨%W', HO⟩
  icases Hout with ⟨%f, %hf, Hout⟩
  isplitl [HΦ]; · iexact HΦ
  isplitl [HO]
  · iexists W'; isplitr; · ipureintro; exact fun _ _ => Or.inl trivial
    iexact HO
  isplitl [Hx]
  · iexists _; isplitr; · (ipureintro; rfl)
    unfold xPts; iexact Hx
  iexists f; isplitr; · (ipureintro; exact good_all m ρ c f hf)
  iexact Hout

set_option maxRecDepth 65536 in
/-- The pipeline's obligation on device `c`'s body. -/
theorem body_obligation (c : Dev nD) : BodyObligation (dats (F := F) m ρ 0 c) (defs₀ (F := F)) 𝒱₀ () Set.univ := fun t => by
  rw [fin_N0 t]
  rw [bigSep_W0, bigSep_W0]
  simp only [owns_all]
  show atStart m ρ c ⊢ wp frame (wpE (defs₀ (F := F)) 𝒱₀ c none) Set.univ
    (cc0_body xM (Memref.isWhole_whole _) wM (Memref.isWhole_whole _) oM (Memref.isWhole_whole _) xbM (Memref.isWhole_whole _)
      wvM (Memref.isWhole_whole _) yM (Memref.isWhole_whole _) cM (Memref.isWhole_whole _) cc0_scratch4 cc0_scratch5 cc0_scratch6) (fun _ => atEnd m ρ c)
  rw [body_eq]
  exact start_steps m ρ c

end Cert.KernelIdeal.AllToAll

end
-- ==== Proof.Dealing.lean ====
/-
What the launch gives the devices: the invariants of the shared cells, the tokens dealt to the devices that pay with them, and the
credit each device waits with.
-/
module

public import proofs.«01_k».proof.Proof.Body

@[expose] public section

noncomputable section

namespace Cert.KernelIdeal.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens at launch -/

/-- The semaphores the kernel allocates for itself: the local copy's, and two for each shift. -/
abbrev osem : Ck → SemLoc sig
  | .inl _ => .dma copyS
  | .inr (.inl s) => .dma (sendS s)
  | .inr (.inr s) => .dma (recvS s)

theorem ownSemFacts : Pipeline.OwnSemFacts cfg0.spec osem := by decide +kernel

theorem csem_injective : Function.Injective csem := fun a b h => by
  have := congrArg ckOf h; rw [ckOf_csem, ckOf_csem] at this; exact Option.some.inj this

theorem kcell_injective : Function.Injective kcell := by
  rintro ⟨c, k⟩ ⟨c', k'⟩ h
  exact Prod.ext (congrArg (fun g : GSem nD τ sig => g.1.1) h) (csem_injective (congrArg Prod.snd h))

/-- The duties of a device's cells: the barrier's by shift, one on each cell of the transfers. -/
abbrev Dk : Type := Fin 16 ⊕ (Fin 16 ⊕ Fin 16)
def dutyCell : Dk → Ck
  | .inl _ => .inl ()
  | .inr k => .inr k
def dutyNo : Dk → Fin 16
  | .inl t => t
  | .inr _ => 0
theorem duty_injective (a b : Dk) (h : dutyCell a = dutyCell b) (h' : dutyNo a = dutyNo b) : a = b := by
  rcases a with a | a <;> rcases b with b | b <;> simp_all [dutyCell, dutyNo]

def tokOf (x : Dev nD × Dk) : GSem nD τ sig × ℕ × Fin 16 := (kcell (x.1, dutyCell x.2), 0, dutyNo x.2)
theorem tokOf_injective : Function.Injective tokOf := by
  rintro ⟨c, k⟩ ⟨c', k'⟩ h
  have h1 := kcell_injective (congrArg Prod.fst h)
  have h2 : dutyNo k = dutyNo k' := congrArg (fun x : GSem nD τ sig × ℕ × Fin 16 => x.2.2) h
  exact Prod.ext (congrArg (fun x : Dev nD × Ck => x.1) h1) (duty_injective k k' (congrArg (fun x : Dev nD × Ck => x.2) h1) h2)

def ringCells : Finset (GSem nD τ sig) := Finset.univ.map ⟨kcell, kcell_injective⟩
def ringToks : Finset (GSem nD τ sig × ℕ × Fin 16) := Finset.univ.map ⟨tokOf, tokOf_injective⟩

def u₀ : UU :=
  (initOf (Pipeline.cells cfgs cellOf_inj) (Pipeline.launchToks cfgs cellOf_inj), (initOf ringCells ringToks, 1))

/-- A big conjunction over two kinds is one of each. -/
theorem bigSep_two {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ
theorem bigSep_ck (Φ : Ck → sProp 𝕄) :
    bigSep Finset.univ Φ = iprop(Φ (.inl ()) ∗ (bigSep Finset.univ fun s => Φ (.inr (.inl s))) ∗ bigSep Finset.univ fun s => Φ (.inr (.inr s))) := by
  rw [bigSep_two, bigSep_two, bigSep_univ_of_subsingleton ()]

/-- The tokens of device `c`'s own cells. -/
def toks (c : Dev nD) : sProp 𝕄 :=
  iprop((bigSep Finset.univ fun s => dutyTok ER (barCell c) 0 (-s))
    ∗ (bigSep Finset.univ fun s => dutyTok ER (sendCell c s) 0 0) ∗ (bigSep Finset.univ fun s => dutyTok ER (recvCell c s) 0 0))

theorem toks_eq (c : Dev nD) : (bigSep Finset.univ fun k : Dk => (dutyTok ER (kcell (c, dutyCell k)) 0 (dutyNo k) : sProp 𝕄)) = toks c := by
  rw [bigSep_two, bigSep_two, bigSep_opp]; rfl

/-- What the launch deals device `c`. -/
def G (c : Dev nD) : sProp 𝕄 :=
  iprop((bigSep Finset.univ fun k : Ck => roundState ER (rd m ρ) (kcell (c, k)) 0)
    ∗ (bigSep Finset.univ fun k : Ck => iprop(atPos ER (kcell (c, k)) 0 ∅ 0 ∗ reached ER (kcell (c, k)) 0)) ∗ toks c)

/-- And what the devices make of it together. -/
def G' (c : Dev nD) : sProp 𝕄 := iprop(∃ K, records m ρ K ∗ linear c ∗ semVal ((c : Thread nD τ), .dma copyS) 0)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Ck => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

abbrev copyV (c : Dev nD) : sProp 𝕄 := semVal ((c : Thread nD τ), .dma copyS) 0

theorem ownSems0_eq (c : Dev nD) : (Pipeline.ownSems0 (Ix := Unit) (Name := ℕ) (U := UU) (Lvl := ℕ) (Val := Elt F) (τ := τ) osem c : sProp 𝕄)
    = iprop(copyV c ∗ (bigSep Finset.univ fun s => semVal (sendCell c s) 0) ∗ bigSep Finset.univ fun s => semVal (recvCell c s) 0) := by
  unfold Pipeline.ownSems0; rw [bigSep_ck]
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_split (c : Dev nD) :
    iprop(Pipeline.ownSems0 (Ix := Unit) (Name := ℕ) (U := UU) (Lvl := ℕ) (Val := Elt F) (τ := τ) osem c ∗ unscopedSems0 c)
      ⊢ (iprop(copyV c ∗ bigSep Finset.univ fun k : Ck => semVal (kcell (c, k)) 0) : sProp 𝕄) := by
  rw [ownSems0_eq, unscopedSems0_eq, bigSep_ck]
  iintro ⟨⟨HC, HS, HV⟩, HB⟩
  isplitl [HC]; · iexact HC
  isplitl [HB]; · iexact HB
  isplitl [HS]; · iexact HS
  iexact HV

/-! ## The invariants, opened by every device together -/

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c ∗ copyV c) := by
  unfold G
  iintro ⟨Hos, Hus, Hst, Hat, Htok⟩
  ihave Hv := (sems0_split (F := F) c) $$ [Hos Hus]
  · isplitl [Hos] <;> iassumption
  icases Hv with ⟨HC, Hv⟩
  imod (show iprop((bigSep Finset.univ fun k : Ck => semVal (kcell (c, k)) 0) ∗ bigSep Finset.univ fun k : Ck => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- A family by device and shift, each member dealt to the device that many places before. -/
theorem bigSep_deal (Φ : Dev nD → Fin 16 → sProp 𝕄) :
    (bigSep Finset.univ fun c => bigSep Finset.univ fun s => Φ c s) = bigSep Finset.univ fun c => bigSep Finset.univ fun s => Φ (fwd c s) s := by
  rw [bigSep_univ_comm, bigSep_congr (s := Finset.univ) fun (s : Fin 16) _ => bigSep_univ_equiv (rot s) fun c => Φ c s, bigSep_univ_comm]; rfl

/-- The tokens device `c` pays with. -/
def payToks (c : Dev nD) : sProp 𝕄 :=
  iprop((bigSep Finset.univ fun s => dutyTok ER (barCell (fwd c s)) 0 (-s))
    ∗ (bigSep Finset.univ fun s => dutyTok ER (sendCell c s) 0 0) ∗ (bigSep Finset.univ fun s => dutyTok ER (recvCell (fwd c s) s) 0 0))

theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_deal fun c s => (dutyTok ER (barCell c) 0 (-s) : sProp 𝕄),
    bigSep_deal fun c s => (dutyTok ER (recvCell c s) 0 0 : sProp 𝕄)]

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal_intro (K : Dev nD × Ck → ℕ) (c : Dev nD) :
    iprop(records m ρ K ∗ ((bigSep Finset.univ fun k : Ck => atPos ER (kcell (c, k)) 0 ∅ 0) ∗ payToks c ∗ copyV c)) ⊢ G' m ρ c := by
  rw [bigSep_ck]
  unfold G' linear payToks
  iintro ⟨HR, Hat, Htok, HC⟩
  iexists K
  isplitl [HR]; · iexact HR
  isplitl [Hat Htok]
  · isplitl [Hat]; · iexact Hat
    iexact Htok
  iexact HC

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c ∗ copyV c) : sProp 𝕄)
      ⊢ bigSep Finset.univ (G' m ρ) := by
  rw [bigSep_sep', bigSep_sep', bigSep_sep', ← bigSep_univ_prod (fun ck : Dev nD × Ck => iprop(∃ κ : ℕ, cellInv ER (rd m ρ) κ (kcell ck))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun ck : Dev nD × Ck => (reached ER (kcell ck) 0 : sProp 𝕄))]
  iintro ⟨HI, ⟨Hat, #HR⟩, Htok, HC⟩
  ihave HK := (BI.bigSep_exists_pi Finset.univ (fun (ck : Dev nD × Ck) (κ : ℕ) => (cellInv ER (rd m ρ) κ (kcell ck) : sProp 𝕄))) $$ HI
  icases HK with ⟨%K, #HI⟩
  ihave Htk := (toks_around (F := F)) $$ Htok
  iapply (bigSep_with (R := records m ρ K) fun c _ => deal_intro m ρ K c)
  isplitr
  · unfold records; isplitl; · iexact HI
    iexact HR
  · rw [bigSep_sep', bigSep_sep']
    isplitl [Hat]; · iexact Hat
    isplitl [Htk] <;> iassumption

/-- What the devices' semaphores and dealt parts make together. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

/-- Each device owing `k` units to the device `s` places on, each is owed `k`. -/
theorem sum_owed (cell : Dev nD → GSem nD τ sig) (hi : Function.Injective cell) (s : Fin 16) (k : ℕ) (c : Dev nD) :
    ∑ d : Dev nD, (tallyAt (cell (fwd d s)) () k : CellTallies nD τ sig Unit) (cell c) () = k := by
  rw [Finset.sum_eq_single (bwd c s)]
  · rw [fwd_bwd, tallyAt_apply, if_pos ⟨rfl, rfl⟩]
  · intro d _ hd
    rw [tallyAt_apply, if_neg fun h => hd (by rw [hi h.1, bwd_fwd])]
  · exact fun h => absurd (Finset.mem_univ _) h

theorem barCell_injective : Function.Injective barCell := fun a b h => congrArg (fun g : GSem nD τ sig => g.1.1) h
theorem recvCell_injective (s : Fin 16) : Function.Injective fun c => recvCell c s := fun a b h => congrArg (fun g : GSem nD τ sig => g.1.1) h
theorem recvS_injective : Function.Injective fun s => (SemLoc.dma (recvS s) : SemLoc sig) := fun a b h => by
  have h1 : csem (.inr (.inr a)) = csem (.inr (.inr b)) := h
  exact Sum.inr.inj (Sum.inr.inj (csem_injective h1))
theorem recv_ne_bar (s : Fin 16) : (SemLoc.dma (recvS s) : SemLoc sig) ≠ .reg barS := fun h => by cases h

theorem owedRecv_bar (d c : Dev nD) : ∀ l, owedRecv d l (barCell c) () = 0
  | [] => rfl
  | s :: l => by
    rw [owedRecv, Pi.add_apply, Finsupp.add_apply, owedRecv_bar d c l, tallyAt_ne_cell fun h => recv_ne_bar s (congrArg Prod.snd h).symm, Finsupp.zero_apply, Nat.add_zero]

theorem owedBar_recv (d c : Dev nD) (s : Fin 16) : ∀ l, owedBar d l (recvCell c s) () = owedRecv d shifts (recvCell c s) ()
  | [] => rfl
  | t :: l => by
    rw [owedBar, Pi.add_apply, Finsupp.add_apply, owedBar_recv d c s l, tallyAt_ne_cell fun h => recv_ne_bar s (congrArg Prod.snd h), Finsupp.zero_apply, Nat.add_zero]

theorem sum_bar (c : Dev nD) : ∀ l, ∑ d : Dev nD, owedBar d l (barCell c) () = l.length
  | [] => Finset.sum_eq_zero fun d _ => owedRecv_bar d c _
  | s :: l => by
    simp only [owedBar, Pi.add_apply, Finsupp.add_apply, Finset.sum_add_distrib]
    rw [sum_bar c l, sum_owed barCell barCell_injective s 1 c]; rfl

theorem sum_recv (c : Dev nD) (s : Fin 16) : ∀ l, ∑ d : Dev nD, owedRecv d l (recvCell c s) () = l.count s * N
  | [] => by rw [List.count_nil, Nat.zero_mul]; exact Finset.sum_eq_zero fun d _ => rfl
  | t :: l => by
    simp only [owedRecv, Pi.add_apply, Finsupp.add_apply, Finset.sum_add_distrib]
    rw [sum_recv c s l]
    by_cases h : t = s
    · subst h
      rw [sum_owed (fun c => recvCell c t) (recvCell_injective t) t N c, List.count_cons_self, Nat.succ_mul]
    · rw [List.count_cons_of_ne h, Finset.sum_eq_zero fun d _ => ?_, Nat.add_zero]
      rw [tallyAt_ne_cell fun e => h (recvS_injective (congrArg Prod.snd e)).symm, Finsupp.zero_apply]

theorem count_shifts : ∀ s : Fin 16, s ≠ 0 → shifts.count s = 1 := by decide

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same]
  exact sum_bar c shifts

theorem launch_recv (c : Dev nD) (s : Fin 16) (hs : s ≠ 0) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => show O₀ d (recvCell c s) () = _ from owedBar_recv d c s shifts,
    sum_recv, count_shifts s hs, Nat.one_mul]

theorem creds_intro (c : Dev nD) : (Pipeline.launchCred O₀ c : sProp 𝕄) ⊢ creds c := by
  unfold Pipeline.launchCred creds
  rw [bigSep_univ_at _ (SemLoc.reg barS), launch_bar]
  refine sep_mono_right ?_
  refine (bigSep_subset (t := (Finset.univ.erase (0 : Fin 16)).map ⟨fun s => (SemLoc.dma (recvS s) : SemLoc sig), recvS_injective⟩) fun q hq => ?_).trans ?_
  · obtain ⟨s, -, rfl⟩ := Finset.mem_map.mp hq
    exact Finset.mem_erase.mpr ⟨recv_ne_bar s, Finset.mem_univ _⟩
  · rw [bigSep_map]
    refine bigSep_mono fun s hs => ?_
    rw [← launch_recv c s (Finset.mem_erase.mp hs).1]
    exact Entails.refl _

end Cert.KernelIdeal.AllToAll

end
-- ==== Proof.Launch.lean ====
/-
The run of the program on the sixteen devices: what the launch theorem asks for, and what holds at the end.
-/
module

public import proofs.«01_k».proof.Proof.Obligation
public import proofs.«01_k».proof.Proof.Dealing
public import Idealize.ShloMosaic.Lib.Pipeline.CollectiveSegs

@[expose] public section

noncomputable section

namespace Cert.KernelIdeal.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the launch theorem asks for -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨Hw, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    unfold wPts; iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch anyAt
  iintro ⟨Hs, -, Hr⟩
  isplitl [Hs]; · iexact Hs
  iexact Hr

/-- What device `c` has left at the end besides its scoped parts. -/
def left (c : Dev nD) : sProp 𝕄 := iprop(wPts m c ∗ unscopedSems0 c)

theorem phi1_exit (c : Dev nD) :
    (dats m ρ 0 c).Φ (Fin.last cfg0.N) ⊢ iprop(left m c ∗ Pipeline.ownSems0 osem c ∗ Pipeline.scopedRest cfg0.spec c) := by
  unfold left
  rw [show (dats m ρ 0 c).Φ (Fin.last cfg0.N) = Φ₁ m c from rfl, scopedRest0_eq, ownSems0_eq, unscopedSems0_eq]
  unfold Φ₁ scratch anyAt
  iintro ⟨Hw, Hr, HzB, HzC, HzS, HzV⟩
  isplitl [Hw HzB]
  · isplitl [Hw]; · iexact Hw
    iexact HzB
  isplitl [HzS HzV HzC]
  · isplitl [HzC]; · iexact HzC
    isplitl [HzS]; · iexact HzS
    iexact HzV
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What is read off the memory at the end: the second operand as launched, and the barriers at zero. -/
def Kept (c : Dev nD) (s : MemSt nD τ sig (Elt F)) : Prop :=
  s.mem ((c : Thread nD τ).loc main_arg1) = m ((c : Thread nD τ).loc main_arg1)
    ∧ ∀ sm : SemLoc sig, sm.isScoped .tc = false → s.sem ((c.tc : Thread nD τ), sm) = 0

theorem read_w (c : Dev nD) (s' : Phys nD τ sig (Elt F)) :
    iprop(wPts m c ∗ SI s') ⊢ (iprop(⌜s'.mem.mem ((c : Thread nD τ).loc main_arg1) = m ((c : Thread nD τ).loc main_arg1)⌝ ∗ SI s') : sProp 𝕄) := by
  unfold wPts
  iintro ⟨Hw, HSI⟩
  icombine HSI Hw gives %h
  isplitr
  · ipureintro; exact Buf.eq_of_forall_mem_univ h
  iexact HSI

theorem read_left (c : Dev nD) (s' : Phys nD τ sig (Elt F)) :
    iprop(left m c ∗ emp ∗ SI s') ⊢ |={Set.univ}=> (iprop(⌜Kept m c s'.mem⌝ ∗ SI s') : sProp 𝕄) := by
  unfold left
  iintro ⟨⟨Hw, Hu⟩, -, HSI⟩
  ihave H := (read_w m c s') $$ [Hw HSI]
  · isplitl [Hw] <;> iassumption
  icases H with ⟨%hw, HSI⟩
  imod (Pipeline.unscopedSems0_read (X := (unscopedSems0 c : sProp 𝕄)) (c := c) fupd_intro s') $$ [Hu HSI] with ⟨%hs, HSI⟩
  · isplitl [Hu] <;> iassumption
  imodintro
  isplitr
  · ipureintro; exact ⟨hw, hs⟩
  iexact HSI

theorem split_u₀ : (ownU (u₀ : UU) : sProp 𝕄)
    ⊢ iprop(BI.own (EP (initOf (Pipeline.cells cfgs cellOf_inj) (Pipeline.launchToks cfgs cellOf_inj))) ∗ BI.own (ER (initOf ringCells ringToks))) := by
  unfold u₀
  refine (ownU_pair _ _).trans (sep_mono_right ?_)
  iintro H
  ihave H := (own_pair_emb (A := UB) (B := Counters) (embR : Emb (UB × Counters) 𝕄) (initOf ringCells ringToks) 1) $$ H
  icases H with ⟨H, -⟩
  iexact H

/-! ## The run -/

/-- What a window's array holds at the end. -/
def finalA (c : Dev nD) (w : Fin cfg0.W) : Buf (Elt F) ((cfg0.win w).arr.view.loc (c : Thread nD τ)) := (dats m ρ 0 c).arrAt w cfg0.N

/-- The end of a run, as the launch theorem states it. -/
def AtEnd : PUnit × MemSt nD τ sig (Elt F) → Prop := fun r =>
  (∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1))
  ∧ r.2.sem = fun _ => 0

set_option maxRecDepth 8000 in
/-- On the sixteen devices, from any memory and with every counter at zero, every run of the program ends, nothing failing: each window's
    array at its computed contents, the second operand as it was, every counter at zero. -/
theorem run_main : θ_run defs (onTc (τ := τ) (main (F := F))) (s₀ m ρ) (AtEnd m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      iintro Hu
      ihave H := (split_u₀ (F := F)) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := left m) (Z := fun _ => iprop(emp))
    (hX := start_intro m ρ) (hin := phi0_intro m ρ) (hout := phi1_exit m ρ)
    (QY := fun c s => Kept m c s)
    (hY := read_left m)
    (hQ := fun _ h hs => ⟨fun c => ⟨fun w => (h c).1 w, (h c).2.2.1⟩, sem_eq_zero hs fun c => (h c).2.2.2⟩)

/-- The first operand's array ends as it was. -/
theorem finalA_x (c : Dev nD) : finalA m ρ c (0 : Fin 2) = m ((c : Thread nD τ).loc main_arg0) :=
  (dats (F := F) m ρ 0 c).arrAt_in (0 : Fin 2) rfl _

/-- The arguments end as they were and the counters at zero. -/
theorem atEnd_frame {r : PUnit × MemSt nD τ sig (Elt F)} (h : AtEnd m ρ r) :
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  ⟨fun c => ⟨((h.1 c).1 0).trans (finalA_x m ρ c), (h.1 c).2⟩, h.2⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => atEnd_frame m ρ h) (run_main m ρ)

end Cert.KernelIdeal.AllToAll

end
-- ==== Proof.Value.lean ====
/-
What the exchange computes, over the extended reals: device `c`'s result is its columns of the larger of zero and the product of the
two whole operands.
-/
module

public import proofs.«01_k».proof.Defs
public import proofs.«01_k».proof.Proof.Gen.Kernel
public import proofs.«01_k».proof.Proof.Launch
public import proofs.«01_k».proof.Proof.Gen.ReferenceIdeal.Run
public import Idealize.ShloMosaic.Lib.Pipeline.Value
public import Idealize.ShloMosaic.Lib.Pipeline.ValueKit
public import Idealize.ShloMosaic.Lib.KernelVsHost
public import Idealize.ShloMosaic.Lib.StackMember
public import Idealize.ShloMosaic.Lib.ValueIdx
public import Idealize.ShloMosaic.Lib.Layout

@[expose] public section

noncomputable section

namespace Cert.KernelIdeal.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result's array -/

/-- The result's array ends holding the sixteen blocks. -/
theorem finalA_out (c : Dev nD) : finalA m ρ c (1 : Fin 2) = outAt m ρ c := by
  refine (dats m ρ 0 c).arrAt_eq_of_covers (1 : Fin 2) (outAt m ρ c) (by decide +kernel) fun t _ y => ?_
  obtain rfl := fin_N0 t
  blk_simp
  refine congrArg (outAt m ρ c) ?_
  funext d
  exact Fin.ext (by fin_cases d <;> simp [win0_1] <;> decide)

/-- The staged rows are the first operand's array. -/
theorem xstg_eq (c : Dev nD) : xstg m ρ c = m ((c : Thread nD τ).loc main_arg0) :=
  Memref.read_access_unit_zero (Elt F) main_arg0 (off := fun a => win0_0.index (0 : Fin 1) a * main_arg0.ty.shape.size a)
    (funext fun a => by fin_cases a <;> decide) (fun a => by fin_cases a <;> decide) _

/-- The columns fetched at shift `s` start at those of the device at shift `s`. -/
theorem colR_off : ∀ (d : Dev nD) (s : Fin 16), k0_off1 d (BitVec.ofNat 32 s.val) = ![0, 512 * (fwd d s).val] := by
  decide +kernel

theorem col_lt (c : Dev nD) (b : Fin 512) : 512 * c.val + b.val < 8192 := by
  have h := c.isLt; have h' := b.isLt
  change c.val < 16 at h
  omega
theorem row_lt (c : Dev nD) (a : Fin 256) : 256 * c.val + a.val < 4096 := by
  have h := c.isLt; have h' := a.isLt
  change c.val < 16 at h
  omega

/-- An element of a rectangle with unit strides, by coordinates. -/
theorem unit_emb {R C h w : ℕ} (off : Fin 2 → ℕ) (o p : ℕ) (ho : off = ![o, p])
    (inb : ∀ a, off a + (⟨2, ![h, w]⟩ : Shape).size a ≤ (⟨2, ![R, C]⟩ : Shape).size a) (a : Fin h) (b : Fin w) (ha : o + a.val < R) (hb : p + b.val < C) :
    (Rect.unit (s := ⟨2, ![R, C]⟩) off (⟨2, ![h, w]⟩ : Shape).size inb).emb (ValueIdx.ix2 a b) = ValueIdx.ix2 ⟨o + a.val, ha⟩ ⟨p + b.val, hb⟩ := by
  subst ho
  funext d
  refine Fin.ext ?_
  match d with
  | ⟨0, _⟩ => exact congrArg (o + ·) (Nat.one_mul _)
  | ⟨1, _⟩ => exact congrArg (p + ·) (Nat.one_mul _)

/-- The columns fetched at shift `s`, read at an element. -/
theorem wv_apply (c : Dev nD) (s : Fin 16) (k : Fin 4096) (b : Fin 512) :
    wv m c s (ValueIdx.ix2 k b) = m ((c : Thread nD τ).loc main_arg1) (ValueIdx.ix2 k ⟨512 * (fwd c s).val + b.val, col_lt _ b⟩) := by
  refine congrArg (m ((c : Thread nD τ).loc main_arg1)) ((unit_emb (R := 4096) (C := 8192) (h := 4096) (w := 512) _ 0 _ (colR_off c s) (k0_off1_inb c s) k b (by omega) (col_lt _ b)).trans ?_)
  exact congrArg (fun r => ValueIdx.ix2 r _) (Fin.ext (Nat.zero_add _))

/-! ## Over the extended reals -/

section AtIdeal

/-- Zero, as both programs write it. -/
abbrev zero : Ideal .f32 := Scalar.ofBits .f32 0x00000000#32

/-- The entry at row `r` and column `n` of the larger of zero and the product of `X` and `W`. -/
def entry {M : ℕ} (X : FVec Ideal ⟨2, ![M, 4096]⟩ .f32) (W : FVec Ideal ⟨2, ![4096, 8192]⟩ .f32) (r : Fin M) (n : Fin 8192) : Ideal .f32 :=
  max (∑ k : Fin 4096, X (ValueIdx.ix2 r k) * W (ValueIdx.ix2 k n)) zero

/-- One block of the product, read at an element. -/
theorem blockF_apply (xb : Vec Ideal S256x4096 .bf16) (w : Vec Ideal S4096x512 .f32) (a : Fin 256) (b : Fin 512) :
    blockF (F := Ideal) xb w (ValueIdx.ix2 a b) = max (∑ k : Fin 4096, xb (ValueIdx.ix2 a k) * w (ValueIdx.ix2 k b)) zero := by
  unfold blockF k0_pay2
  refine congrArg (fun v => max v zero) ?_
  rw [matmul_zero_eq_dotGeneral]
  exact StackMember.dotGeneral_plain_apply none xb _ a b

variable (m : (ℓ : Loc nD τ sig) → Buf (Elt Ideal) ℓ)

theorem xbv_apply (c : Dev nD) (i : S256x4096.Idx) : xbv (F := Ideal) m ρ c i = m ((c : Thread nD τ).loc main_arg0) i := by
  unfold xbv k0_pay1
  rw [xstg_eq]
  rw [shapeCast_self]
  exact congrFun (shapeCast_self _ _) i

/-- The block of device `c`'s result in the rows of the device `s` places before it, read at an element. -/
theorem outBlock_apply (c : Dev nD) (s : Fin 16) (a : Fin 256) (b : Fin 512) :
    outBlock (F := Ideal) m ρ c s (ValueIdx.ix2 a b)
      = entry (M := 256) (m ((bwd c s : Thread nD τ).loc main_arg0)) (m ((bwd c s : Thread nD τ).loc main_arg1)) a ⟨512 * c.val + b.val, col_lt c b⟩ := by
  have key : outBlock (F := Ideal) m ρ c s (ValueIdx.ix2 a b) = blockF (F := Ideal) (xbv m ρ (bwd c s)) (wv m (bwd c s) s) (ValueIdx.ix2 a b) := by
    unfold outBlock
    by_cases h : s = 0
    · subst h; rw [if_pos rfl, bwd_zero]
    · rw [if_neg h]; rfl
  rw [key, blockF_apply]
  simp only [xbv_apply, wv_apply, fwd_bwd]
  rfl

/-- The reference's result as a function of its operands. -/
abbrev refOut (X : FVec Ideal Cert.ReferenceIdeal.S4096x4096 .f32) (W : FVec Ideal Cert.ReferenceIdeal.S4096x8192 .f32) : FVec Ideal Cert.ReferenceIdeal.S4096x8192 .f32 :=
  maximumf (Host.dotGeneral Cert.ReferenceIdeal.dot_S4096x4096_S4096x8192_S4096x8192_1_0_0_1_n_n none X W)
    (broadcastInDim Cert.ReferenceIdeal.S4096x8192 ![] Cert.ReferenceIdeal.Facts₀.bcast_S_S4096x8192 (constant Cert.ReferenceIdeal.S_ .f32 0x00000000#32))

theorem refOut_apply (X : FVec Ideal Cert.ReferenceIdeal.S4096x4096 .f32) (W : FVec Ideal Cert.ReferenceIdeal.S4096x8192 .f32) (r : Fin 4096) (n : Fin 8192) :
    refOut X W (ValueIdx.ix2 r n) = entry (M := 4096) X W r n :=
  congrArg (fun v => max v zero) (StackMember.dotGeneral_plain_apply none X W r n)

/-- An entry of a block of rows is the entry of the whole at the block's row. -/
theorem entry_rows (X : FVec Ideal ⟨2, ![4096, 4096]⟩ .f32) (W : FVec Ideal ⟨2, ![4096, 8192]⟩ .f32) (c : Dev nD) (a : Fin 256) (n : Fin 8192) :
    entry (M := 256) (Layout.block ⟨2, ![256, 4096]⟩ ⟨2, ![4096, 4096]⟩ 0 16 c X) W a n = entry (M := 4096) X W ⟨256 * c.val + a.val, row_lt c a⟩ n := by
  refine congrArg (fun v => max v zero) (Finset.sum_congr rfl fun k _ => congrArg (fun v => v * W (ValueIdx.ix2 k n)) (congrArg X ?_))
  funext d
  refine Fin.ext ?_
  match d with
  | ⟨0, _⟩ => exact congrArg (· + a.val) (Nat.mul_comm _ _)
  | ⟨1, _⟩ => rfl

/-- If the devices hold the rows of `X`, sixteenth by sixteenth, and each the whole of `W`, device `c` ends with its columns of the
    reference's result. -/
theorem outAt_block (X : FVec Ideal ⟨2, ![4096, 4096]⟩ .f32) (W : FVec Ideal ⟨2, ![4096, 8192]⟩ .f32)
    (hX : ∀ c : Dev nD, m ((c : Thread nD τ).loc main_arg0) = Layout.block ⟨2, ![256, 4096]⟩ ⟨2, ![4096, 4096]⟩ 0 16 c X)
    (hW : ∀ c : Dev nD, m ((c : Thread nD τ).loc main_arg1) = W) (c : Dev nD) :
    outAt (F := Ideal) m ρ c = Layout.block ⟨2, ![4096, 512]⟩ ⟨2, ![4096, 8192]⟩ 1 16 c (refOut X W) := by
  funext i
  obtain ⟨s, -, hs⟩ := Finset.mem_biUnion.mp ((rows_cover c).symm ▸ Finset.mem_univ i)
  rw [← Rect.map_emb_univ, Finset.mem_map] at hs
  obtain ⟨y, -, rfl⟩ := hs
  rw [outAt_emb]
  obtain ⟨a, b, rfl⟩ : ∃ (a : Fin 256) (b : Fin 512), y = ValueIdx.ix2 a b := ⟨y 0, y 1, ValueIdx.eq_ix2 y⟩
  rw [outBlock_apply, hX, hW, entry_rows, ← refOut_apply, Layout.block_apply]
  refine congrArg (refOut X W) ?_
  rw [unit_emb (R := 4096) (C := 512) (h := 256) (w := 512) _ (256 * (bwd c s).val) 0 rfl (rows_inb c s) a b (row_lt _ a) (by omega)]
  funext d
  refine Fin.ext ?_
  match d with
  | ⟨0, _⟩ => rfl
  | ⟨1, _⟩ => exact congrArg₂ (· + ·) (Nat.mul_comm _ _) (Nat.zero_add _).symm

end AtIdeal

/-! ## The claims -/

/-- The kernel as printed and its idealization have one body. -/
theorem body_same : Cert.Kernel.cc0_body (F := F) = cc0_body (F := F) := rfl

set_option maxRecDepth 100000 in
theorem table_same (t) (s) : Cert.Kernel.defs₀ (F := F) .tc 0 (t, s) = defs₀ (F := F) .tc 0 (t, s) := by
  change Cert.Kernel.cc0_body .. = cc0_body ..
  rw [body_same]

/-- So they have one table of bodies, and one program. -/
theorem defs_same : Cert.Kernel.defs (F := F) = defs (F := F) := by
  refine congrArg (Pipeline.defs pcfgs) ?_
  unfold Cert.Kernel.defs₀ defs₀
  refine congrArg Defs.onTc ?_
  funext l a
  match l, a with
  | 0, (t, s) => exact table_same t s
  | ⟨_ + 1, h⟩, _ => exact absurd h (Nat.not_lt.2 (Nat.le_add_left _ _))

/-- Every run of the program leaves its arguments and its counters as they were. -/
theorem frame_kernel : Cert.quiescent_Kernel := fun m ρ _ => by
  rw [defs_same]
  exact frame (F := Bits) m ρ

/-- The same over the extended reals. -/
theorem frame_ideal : Cert.quiescent_KernelIdeal := fun m ρ _ => frame (F := Ideal) m ρ

/-- The reference has no counters, and writes neither argument. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference compute the same function over the extended reals. -/
theorem algebraic : Cert.algebraic_KernelIdeal_ReferenceIdeal := by
  intro m ρ m' ρ' _ hagree
  refine ⟨_, ?_, (θ_run Cert.ReferenceIdeal.defs _ _).mono (fun _ h => h 0) (Cert.ReferenceIdeal.Value.run (F := Ideal) m' ρ')⟩
  exact (θ_run defs _ _).mono (fun _ h c => ⟨((h.1 c).1 1).trans ((finalA_out m ρ c).trans
      (outAt_block ρ m _ _ (fun c => (hagree c).1) (fun c => (hagree c).2) c)), (atEnd_frame m ρ h).1 c⟩) (run_main (F := Ideal) m ρ)

end Cert.KernelIdeal.AllToAll

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  open Cert.KernelIdeal.AllToAll in ⟨frame_kernel, frame_ideal, frame_reference, trivial, algebraic⟩⟩

end Cert.Proof

end
